-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S4x2x256 : Shape := ⟨3, ![4, 2, 256]⟩
abbrev S3 : Shape := ⟨1, ![3]⟩
abbrev S_ : Shape := ⟨0, ![]⟩
abbrev S256 : Shape := ⟨1, ![256]⟩
abbrev S1x256 : Shape := ⟨2, ![1, 256]⟩
abbrev S1x2x256 : Shape := ⟨3, ![1, 2, 256]⟩
abbrev S1 : Shape := ⟨1, ![1]⟩
abbrev S1x1x256 : Shape := ⟨3, ![1, 1, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S2x256, .f32⟩
  | .local _ .vmem, ⟨0, _⟩ => ⟨S256x256, .bf16⟩
  | .local _ .vmem, ⟨1, _⟩ => ⟨S2x256, .f32⟩
  | .local _ .vmem, ⟨2, _⟩ => ⟨S4x2x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v62 : Index := Scalar.indexCast v2
  let c0_31 : Index := 0#32
  let c0_32 : Index := 0#32
  ![v62.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_45 : BitVec 32 := 0#32
  let c0_i32_46 : BitVec 32 := 0#32
  ![v2.toNat, 0, 0]
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v66 : BitVec 32 := Scalar.addi v2 c2_i32_34
  let c4_i32_35 : BitVec 32 := 4#32
  let c0_i32_36 : BitVec 32 := 0#32
  let v67 : BitVec 1 := Scalar.cmpi .eq c4_i32_35 c0_i32_36
  let c1_i32_37 : BitVec 32 := 1#32
  let v68 : BitVec 32 := Scalar.select v67 c1_i32_37 c4_i32_35
  let v69 : BitVec 32 := Scalar.remsi v66 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let c1_i32_43 : BitVec 32 := 1#32
  let v77 : BitVec 32 := Scalar.muli v76 c1_i32_43
  let v78 : BitVec 32 := Scalar.addi c0_i32_44 v77
  v78.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v87 : BitVec 32 := Scalar.addi v2 c1_i32_49
  let c4_i32_50 : BitVec 32 := 4#32
  let c0_i32_51 : BitVec 32 := 0#32
  let v88 : BitVec 1 := Scalar.cmpi .eq c4_i32_50 c0_i32_51
  let c1_i32_52 : BitVec 32 := 1#32
  let v89 : BitVec 32 := Scalar.select v88 c1_i32_52 c4_i32_50
  let v90 : BitVec 32 := Scalar.remsi v87 v89
  let c0_i32_54 : BitVec 32 := 0#32
  let v92 : BitVec 1 := Scalar.cmpi .slt v90 c0_i32_54
  let c0_i32_55 : BitVec 32 := 0#32
  let v93 : BitVec 1 := Scalar.cmpi .slt v89 c0_i32_55
  let v94 : BitVec 1 := Scalar.xori v92 v93
  let c0_i32_53 : BitVec 32 := 0#32
  let v91 : BitVec 1 := Scalar.cmpi .ne v90 c0_i32_53
  let v95 : BitVec 1 := Scalar.andi v94 v91
  let v96 : BitVec 32 := Scalar.addi v90 v89
  let v97 : BitVec 32 := Scalar.select v95 v96 v90
  let c1_i32_58 : BitVec 32 := 1#32
  let v98 : BitVec 32 := Scalar.muli v97 c1_i32_58
  let v99 : BitVec 32 := Scalar.addi c0_i32_59 v98
  v99.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v108 : BitVec 32 := Scalar.addi v2 c3_i32_64
  let c4_i32_65 : BitVec 32 := 4#32
  let c0_i32_66 : BitVec 32 := 0#32
  let v109 : BitVec 1 := Scalar.cmpi .eq c4_i32_65 c0_i32_66
  let c1_i32_67 : BitVec 32 := 1#32
  let v110 : BitVec 32 := Scalar.select v109 c1_i32_67 c4_i32_65
  let v111 : BitVec 32 := Scalar.remsi v108 v110
  let c0_i32_69 : BitVec 32 := 0#32
  let v113 : BitVec 1 := Scalar.cmpi .slt v111 c0_i32_69
  let c0_i32_70 : BitVec 32 := 0#32
  let v114 : BitVec 1 := Scalar.cmpi .slt v110 c0_i32_70
  let v115 : BitVec 1 := Scalar.xori v113 v114
  let c0_i32_68 : BitVec 32 := 0#32
  let v112 : BitVec 1 := Scalar.cmpi .ne v111 c0_i32_68
  let v116 : BitVec 1 := Scalar.andi v115 v112
  let v117 : BitVec 32 := Scalar.addi v111 v110
  let v118 : BitVec 32 := Scalar.select v116 v117 v111
  let c1_i32_73 : BitVec 32 := 1#32
  let v119 : BitVec 32 := Scalar.muli v118 c1_i32_73
  let v120 : BitVec 32 := Scalar.addi c0_i32_74 v119
  v120.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S1024x256, .i32⟩
  | .hbm, ⟨2, _⟩ => ⟨S_, .bf16⟩
  | .hbm, ⟨3, _⟩ => ⟨S_, .i32⟩
  | .hbm, ⟨4, _⟩ => ⟨S256, .bf16⟩
  | .hbm, ⟨5, _⟩ => ⟨S256, .i32⟩
  | .hbm, ⟨6, _⟩ => ⟨S256, .f32⟩
  | .hbm, ⟨7, _⟩ => ⟨S_, .bf16⟩
  | .hbm, ⟨8, _⟩ => ⟨S256, .bf16⟩
  | .hbm, ⟨9, _⟩ => ⟨S256, .f32⟩
  | .hbm, ⟨10, _⟩ => ⟨S1x256, .f32⟩
  | .hbm, ⟨11, _⟩ => ⟨S1x256, .f32⟩
  | .hbm, ⟨12, _⟩ => ⟨S2x256, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.ReferenceRun.lean ====
/-
# The reference's run

The reference is a straight line of host operations on one device: an argmax and a maximum down the columns of the whole
array, each laid out as one row, and the two rows stacked. This module runs it and names what it leaves in the result.
-/
module

public import proofs.«01_k».proof.Proof.Gen.ReferenceIdeal
public import Idealize.ShloMosaic.Lib.StableHlo.Run

@[expose] public section

noncomputable section

namespace Cert.ReferenceColumns

open Cert.ReferenceIdeal Cert.ReferenceIdeal.Gen
open Idealize.ShloMosaic Idealize.ShloMosaic.TcCoe Idealize.ShloMosaic.StableHlo Idealize.SL.Sem

variable {F : FTy → Type} [FloatOps F]

/-- The pairs the argmax folds over start at minus infinity and row zero; at each column it leaves the winner and the
    number of the winner's row. -/
def winners (x : FVec F S1024x256 .bf16) : S256.Idx → F .bf16 × BitVec 32 :=
  Host.argReduce reducer_argmax_bf16_i32 x (iotaInDim S1024x256 32 0) (constant S_ .bf16 0xFF80#16) (constantI S_ 32 0#32)
    reducesTo_S1024x256_S256_d0 h_S_

/-- The largest entry of each column. -/
def largest (x : FVec F S1024x256 .bf16) : FVec F S256 .bf16 :=
  Host.reduce FloatOps.maximumf x (constant S_ .bf16 0xFF80#16) reducesTo_S1024x256_S256_d0 h_S_

/-- The row numbers as floats, by column. -/
def numbers (x : FVec F S1024x256 .bf16) : FVec F S256 .f32 := sitofp .f32 (fun j => (winners x j).2)

/-- The result: the largest entries over the row numbers. -/
def stacked (x : FVec F S1024x256 .bf16) : FVec F S2x256 .f32 :=
  concatenate S2x256 0 [⟨S1x256, broadcastInDim S1x256 ![1] bcast_S256_S1x256_1 (extf .f32 (largest x) bitsLt_bf16_f32)⟩,
    ⟨S1x256, broadcastInDim S1x256 ![1] bcast_S256_S1x256_1 (numbers x)⟩] concatenates_S1x256_S1x256_S2x256_d0

/-- The operations in order. -/
abbrev line : List (HloOp τ sig (Elt F)) :=
  [ nullary main_call0_v0 (iotaInDim S1024x256 32 0),
    nullary main_call0_cst (constant S_ .bf16 0xFF80#16),
    nullary main_call0_c (constantI S_ 32 0#32),
    quaternary main_arg0 main_call0_v0 main_call0_cst main_call0_c main_call0_v1_0
      (fun x y u v j => (Host.argReduce reducer_argmax_bf16_i32 x y u v reducesTo_S1024x256_S256_d0 h_S_ j).1),
    quaternary main_arg0 main_call0_v0 main_call0_cst main_call0_c main_v0
      (fun x y u v j => (Host.argReduce reducer_argmax_bf16_i32 x y u v reducesTo_S1024x256_S256_d0 h_S_ j).2),
    unary main_v0 main_v1 (sitofp .f32),
    nullary main_cst (constant S_ .bf16 0xFF80#16),
    binary main_arg0 main_cst main_v2 (fun x v => Host.reduce FloatOps.maximumf x v reducesTo_S1024x256_S256_d0 h_S_),
    unary main_v2 main_v3 (extf .f32 · bitsLt_bf16_f32),
    unary main_v3 main_v4 (broadcastInDim S1x256 ![1] bcast_S256_S1x256_1),
    unary main_v1 main_v5 (broadcastInDim S1x256 ![1] bcast_S256_S1x256_1),
    binary main_v4 main_v5 main_v6
      (fun a b => concatenate S2x256 0 [⟨S1x256, a⟩, ⟨S1x256, b⟩] concatenates_S1x256_S1x256_S2x256_d0) ]

/-- The program is that line. -/
theorem main_line (c : Dev nD) : main (F := F) c = seq line := rfl

/-- What the line leaves in the result's buffer. -/
theorem line_result (V : Valuation τ sig (Elt F)) : after line V (main_v6 : DevRef τ sig) = stacked (V (main_arg0 : DevRef τ sig)) := by
  after_results
  rfl

/-- The argument's buffer is left alone. -/
theorem line_argument (V : Valuation τ sig (Elt F)) : after line V (main_arg0 : DevRef τ sig) = V (main_arg0 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

/-- Every operation stays among the buffers of the core that runs it. -/
theorem line_bufs : (line : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., unary_bufs_sub .., binary_bufs_sub ..⟩

/-- The run: it ends with the result stacked from the argument, and the argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v6) = stacked (m ((c.tc : Thread nD τ).loc main_arg0))
        ∧ r.2.mem ((c.tc : Thread nD τ).loc main_arg0) = m ((c.tc : Thread nD τ).loc main_arg0) :=
  (θ_run defs _ _).mono (fun _ h c => ⟨(h c main_v6).trans (line_result _), (h c main_arg0).trans (line_argument _)⟩)
    (run_seq no_scoped_refs no_scoped_sems defs main (fun _ => line) main_line (fun _ => line_bufs) m ρ)

end Cert.ReferenceColumns

end
-- ==== Proof.KernelIdealSlots.lean ====
/-
# The gather buffer of the argmax kernel

Four devices hold 256 rows each of a matrix of 1024 rows and 256 columns. Device `c` reduces its rows to a chunk of two
rows of 256 (the largest entry of each column; the number of the row holding it), puts the chunk in slot `c` of a buffer
of four slots and sends that slot to the three other devices. This module names the other devices, the slots and what
the buffer holds when all chunks are in; nothing here runs yet.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ViewIndex

@[expose] public section

noncomputable section

namespace Cert.KernelIdealGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix3)

variable {F : FTy → Type} [FloatOps F]

/-! ## The other three devices -/

set_option backward.proofsInPublic true in
/-- The device `j + 1` places further round. -/
def peer (c : Dev nD) (j : Fin 3) : Dev nD := ⟨(c.val + j.val + 1) % 4, Nat.mod_lt _ (by decide)⟩

/-- Going `j + 1` places on and then the remaining `4 - (j + 1)` comes home. -/
theorem peer_rev (c : Dev nD) (j : Fin 3) : peer (peer c j) j.rev = c := by revert c j; decide
/-- The same in the other order. -/
theorem peer_of_rev (c : Dev nD) (j : Fin 3) : peer (peer c j.rev) j = c := by revert c j; decide

/-- A device and its three peers are all the devices, each once. -/
theorem all_devs (c : Dev nD) : (Finset.univ : Finset (Dev nD)) = [c, peer c 0, peer c 1, peer c 2].toFinset := by
  revert c; decide
theorem devs_nodup (c : Dev nD) : [c, peer c 0, peer c 1, peer c 2].Nodup := by revert c; decide

/-- Moving every device `j + 1` places on is a rearrangement of the devices. -/
def turn (j : Fin 3) : Dev nD ≃ Dev nD := ⟨fun c => peer c j, fun c => peer c j.rev, fun c => peer_rev c j, fun c => peer_of_rev c j⟩

/-! The device numbers the program computes: its signals go to the peers in order, its copies to the peers 1, 0, 2. -/

theorem dev1_peer (c : Dev nD) : (⟨k0_dev1 c, k0_dev1_lt c⟩ : Dev nD) = peer c 0 := by revert c; decide +kernel
theorem dev2_peer (c : Dev nD) : (⟨k0_dev2 c, k0_dev2_lt c⟩ : Dev nD) = peer c 1 := by revert c; decide +kernel
theorem dev3_peer (c : Dev nD) : (⟨k0_dev3 c, k0_dev3_lt c⟩ : Dev nD) = peer c 2 := by revert c; decide +kernel
theorem dev4_peer (c : Dev nD) : (⟨k0_dev4 c, k0_dev4_lt c⟩ : Dev nD) = peer c 1 := by revert c; decide +kernel
theorem dev5_peer (c : Dev nD) : (⟨k0_dev5 c, k0_dev5_lt c⟩ : Dev nD) = peer c 0 := by revert c; decide +kernel
theorem dev6_peer (c : Dev nD) : (⟨k0_dev6 c, k0_dev6_lt c⟩ : Dev nD) = peer c 2 := by revert c; decide +kernel

/-! ## The buffers and the slots -/

abbrev inM : Memref sig .tc .vmem S256x256 .bf16 := Memref.whole cc0_stg0_0
abbrev outM : Memref sig .tc .vmem S2x256 .f32 := Memref.whole cc0_stg1_0
abbrev gatM : Memref sig .tc .vmem S4x2x256 .f32 := Memref.whole cc0_scratch0

/-- The rectangle device `s` stores its chunk through, -/
abbrev slotR (s : Dev nD) : Rect S4x2x256 := Rect.unit (s := S4x2x256) (k0_off1 s) S1x2x256.size (k0_off1_inb s)
/-- and the slot as its copies address it. -/
abbrev slotM (s : Dev nD) : Memref sig .tc .vmem S2x256 .f32 :=
  (gatM.slice (Rect.unit (s := S4x2x256) (k0_off2 s) S1x2x256.size (k0_off2_inb s)) (fun _ => rfl)).squeeze S2x256 squeezes_S1x2x256_S2x256

/-- Slot `s` is the part of the buffer with first coordinate `s`. -/
theorem mem_slot {s : Dev nD} {i : S4x2x256.Idx} : i ∈ (slotM s).view.set ↔ (i 0).val = s.val := by
  have hs : (slotM s).view.set = (Rect.unit (s := S4x2x256) (k0_off2 s) S1x2x256.size (k0_off2_inb s)).set :=
    (View.set_reshape _ _).trans (View.set_slice_whole _ _)
  rw [hs, Rect.mem_set_unit, k0_off2_eq]
  have h1 : (i 1).val < 2 := (i 1).isLt
  have h2 : (i 2).val < 256 := (i 2).isLt
  constructor
  · intro h; have := h 0
    simp only [Matrix.cons_val_zero] at this
    have e : S1x2x256.size 0 = 1 := rfl
    omega
  · intro h a
    match a with
    | ⟨0, _⟩ => exact ⟨Nat.le_of_eq h.symm, Nat.lt_succ_of_le (Nat.le_of_eq h)⟩
    | ⟨1, _⟩ => exact ⟨Nat.zero_le _, by show (i 1).val < 0 + 2; omega⟩
    | ⟨2, _⟩ => exact ⟨Nat.zero_le _, by show (i 2).val < 0 + 256; omega⟩

/-- The store's rectangle covers the same elements. -/
theorem access_slot (s : Dev nD) : (gatM.access (slotR s) : View sig .tc _ _ _).set = (slotM s).view.set := by
  have ho : k0_off1 s = k0_off2 s := (k0_off1_eq s).trans (k0_off2_eq s).symm
  refine (View.set_slice_whole cc0_scratch0 (slotR s)).trans (Eq.trans ?_ ((View.set_reshape _ _).trans (View.set_slice_whole _ _)).symm)
  ext i; rw [Rect.mem_set_unit]; exact (by rw [ho] : _ ↔ _).trans Rect.mem_set_unit.symm

/-- Different slots have no element in common, -/
theorem slots_disjoint {s s' : Dev nD} (h : s ≠ s') : Disjoint (slotM s).view.set (slotM s').view.set :=
  Finset.disjoint_left.mpr fun i hi hi' => h (Fin.ext ((mem_slot.mp hi).symm.trans (mem_slot.mp hi')))
/-- and together they are the buffer. -/
theorem slots_cover : (Finset.univ : Finset (Dev nD)).biUnion (fun s => (slotM s).view.set) = (Finset.univ : Finset S4x2x256.Idx) :=
  Finset.eq_univ_iff_forall.mpr fun i => Finset.mem_biUnion.mpr ⟨⟨(i 0).val, (i 0).isLt⟩, Finset.mem_univ _, mem_slot.mpr rfl⟩

/-! ## Contents -/

variable (m : (ℓ : Loc nD τ sig) → Buf (Elt F) ℓ)

/-- The rows of device `c`, as its block of the argument brings them in. -/
def rows (c : Dev nD) : (cc0_stg0_0 : Ref sig .tc).ty.Contents (Elt F) :=
  (win0_0.blk (0 : Fin 1)).view.read (Elt F) (m ((c : Thread nD τ).loc main_arg0))

/-- The program's word for the device number. -/
abbrev devWord (c : Dev nD) : BitVec 32 := Scalar.remsi (Scalar.divsi (Dev.word c) 1#32) 4#32

/-- The chunk of device `c`: the largest entry of each column over its rows, and the number of the row. -/
def chunk (c : Dev nD) : FVec F S1x2x256 .f32 := k0_pay1 (devWord c) (rows m c)

/-- The buffer with every slot filled — the same contents on every device. -/
def gath : (cc0_scratch0 : Ref sig .tc).ty.Contents (Elt F) :=
  fun i => chunk m ⟨(i 0).val, (i 0).isLt⟩ (ix3 (0 : Fin 1) (i 1) (i 2))

/-- Storing device `s`'s chunk makes slot `s` what the filled buffer has there. -/
theorem store_slot (s : Dev nD) (f : (cc0_scratch0 : Ref sig .tc).ty.Contents (Elt F)) (i : S4x2x256.Idx) (hi : i ∈ (slotM s).view.set) :
    (gatM.access (slotR s) : View sig .tc _ _ _).write (Elt F) f (chunk m s) Finset.univ i = gath m i := by
  have e : (gatM.access (slotR s) : View sig .tc _ _ _).emb (ix3 (0 : Fin 1) (i 1) (i 2) : S1x2x256.Idx) = i := by
    refine Shape.idx3_ext ?_ ?_ ?_
    all_goals
      show (((slotR s).emb (ix3 (0 : Fin 1) (i 1) (i 2) : S1x2x256.Idx)) _).val = _
      rw [Rect.emb_apply, Rect.off_unit, Rect.stride_unit, k0_off1_eq]
    · have := mem_slot.mp hi
      show s.val + 1 * 0 = _
      omega
    · show 0 + 1 * (i 1).val = _; omega
    · show 0 + 1 * (i 2).val = _; omega
  have hs : (⟨(i 0).val, (i 0).isLt⟩ : Dev nD) = s := Fin.ext (mem_slot.mp hi)
  have hw := View.write_emb_of_mem (v := (gatM.access (slotR s) : View sig .tc _ _ _)) (Val := Elt F) f (chunk m s)
    (M := Finset.univ) (x := (ix3 (0 : Fin 1) (i 1) (i 2) : S1x2x256.Idx)) (Finset.mem_univ _)
  rw [e] at hw
  rw [hw]; unfold gath; rw [hs]; rfl

/-- Copying slot `s` of the filled buffer makes slot `s` of any other what the filled buffer has there. -/
theorem copy_slot (s : Dev nD) (f g : (cc0_scratch0 : Ref sig .tc).ty.Contents (Elt F)) (i : S4x2x256.Idx) (hi : i ∈ (slotM s).view.set) :
    (slotM s).view.write (Elt F) f ((slotM s).view.read (Elt F) g) Finset.univ i = g i := by
  rw [View.write_read_eq_piecewise]
  exact Finset.piecewise_eq_of_mem _ _ _ hi

/-! ## The result -/

/-- What the program reads of slot `s`, row `r`. -/
def line (s : Fin 4) (r : Fin 2) : Vec F S1x1x256 .f32 := fun x => gath m (ix3 s r (x 2) : S4x2x256.Idx)

/-- The running winner after slots 0 and 1: its value and its row number. -/
def best01 : FVec F S1x256 .f32 := k0_pay5 (line m 0 0) (line m 1 0)
def row01 : FVec F S1x256 .f32 := k0_pay6 (line m 0 0) (line m 0 1) (line m 1 0) (line m 1 1)

/-- The two rows of the result: the winner over all four slots, and the number of the row it is in. -/
def bestAll : FVec F S1x256 .f32 := k0_pay12 (best01 m) (line m 2 0) (line m 3 0)
def rowAll : FVec F S1x256 .f32 := k0_pay13 (best01 m) (row01 m) (line m 2 0) (line m 2 1) (line m 3 0) (line m 3 1)

/-- The result of the kernel on each device. -/
def result : (cc0_stg1_0 : Ref sig .tc).ty.Contents (Elt F) :=
  fun i => if (i 0).val = 0 then bestAll m (fun | ⟨0, _⟩ => (0 : Fin 1) | ⟨1, _⟩ => i 1) else rowAll m (fun | ⟨0, _⟩ => (0 : Fin 1) | ⟨1, _⟩ => i 1)

/-- A load of one line of the filled buffer. -/
theorem load_line (s : Fin 4) (r : Fin 2) (inb : ∀ a, (![s.val, r.val, 0] : Fin 3 → Nat) a + S1x1x256.size a ≤ S4x2x256.size a) :
    gatM.view.readAt (Elt F) (Rect.unit (s := S4x2x256) ![s.val, r.val, 0] S1x1x256.size inb).toLoadRect (gath m) = line m s r := by
  funext x
  refine congrArg (gath m) (?_ : (Rect.unit (s := S4x2x256) ![s.val, r.val, 0] S1x1x256.size inb).emb x = (ix3 s r (x 2) : S4x2x256.Idx))
  have h0 : (x 0).val < 1 := (x 0).isLt
  have h1 : (x 1).val < 1 := (x 1).isLt
  refine Shape.idx3_ext ?_ ?_ ?_
  all_goals rw [Rect.emb_apply, Rect.off_unit, Rect.stride_unit]
  · show s.val + 1 * (x 0).val = s.val; omega
  · show r.val + 1 * (x 1).val = r.val; omega
  · show 0 + 1 * (x 2).val = (x 2).val; omega

abbrev outR0 : Rect S2x256 := Rect.unit (s := S2x256) ![0, 0] S1x256.size inb_S2x256_S1x256_0_0
abbrev outR1 : Rect S2x256 := Rect.unit (s := S2x256) ![1, 0] S1x256.size inb_S2x256_S1x256_1_0

/-- The two stores fill the result's block, whatever it held. -/
theorem store_result (f : (cc0_stg1_0 : Ref sig .tc).ty.Contents (Elt F)) :
    (outM.access outR1 : View sig .tc _ _ _).write (Elt F)
      ((outM.access outR0 : View sig .tc _ _ _).write (Elt F) f (bestAll m) Finset.univ) (rowAll m) Finset.univ = result m := by
  funext i
  have h2 : (i 0).val < 2 := (i 0).isLt
  let y : S1x256.Idx := fun | ⟨0, _⟩ => (0 : Fin 1) | ⟨1, _⟩ => i 1
  by_cases h : (i 0).val = 0
  · have e : (outM.access outR0 : View sig .tc _ _ _).emb y = i := by
      funext a; apply Fin.ext
      match a with
      | ⟨0, _⟩ => exact h.symm
      | ⟨1, _⟩ => show 0 + 1 * (i 1).val = (i 1).val; omega
    have hn : i ∉ (outM.access outR1 : View sig .tc _ _ _).setOn Finset.univ := by
      intro hm
      obtain ⟨x, -, hx⟩ := Finset.mem_map.mp hm
      have := congrArg (fun j : S2x256.Idx => (j 0).val) hx
      have h' : 1 + 1 * (x 0).val = (i 0).val := this
      omega
    rw [View.write_of_not_mem _ _ _ hn]
    have hw := View.write_emb_of_mem (v := (outM.access outR0 : View sig .tc _ _ _)) (Val := Elt F) f (bestAll m)
      (M := Finset.univ) (x := y) (Finset.mem_univ _)
    rw [e] at hw
    rw [hw]; unfold result; rw [if_pos h]; rfl
  · have e : (outM.access outR1 : View sig .tc _ _ _).emb y = i := by
      funext a; apply Fin.ext
      match a with
      | ⟨0, _⟩ => show 1 + 1 * 0 = (i 0).val; omega
      | ⟨1, _⟩ => show 0 + 1 * (i 1).val = (i 1).val; omega
    have hw := View.write_emb_of_mem (v := (outM.access outR1 : View sig .tc _ _ _)) (Val := Elt F)
      ((outM.access outR0 : View sig .tc _ _ _).write (Elt F) f (bestAll m) Finset.univ) (rowAll m)
      (M := Finset.univ) (x := y) (Finset.mem_univ _)
    rw [e] at hw
    rw [hw]; unfold result; rw [if_neg h]; rfl

end Cert.KernelIdealGather

end
-- ==== Proof.KernelIdealProtocol.lean ====
/-
# The protocol of the argmax kernel

Every device tells its three peers, by a unit on their barrier semaphore, that it is in the kernel; with the unit it lends
each peer the slot that peer will fill. After three units a device copies its own slot to the three peers: each copy credits
a send semaphore here when its source is free again, and a receive semaphore there when it has landed. One round, seven
cells a device: what each cell's credit brings with it is stated here, and what a device owes and holds at the start.
-/
module

public import proofs.«01_k».proof.Proof.KernelIdealSlots
public import Mathlib.Tactic.DeriveFintype

@[expose] public section

noncomputable section

namespace Cert.KernelIdealGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

/-- A device's seven semaphores of the protocol. -/
inductive Cell where
  | bar
  | snd (j : Fin 3)
  | rcv (j : Fin 3)
deriving DecidableEq, Fintype

abbrev barS : Sem sig := (SemArray.scalar (sig.barrier 0 rfl) : Sems sig S_).sem
abbrev sendS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev recvS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

/-- Where the cell's counter is, -/
abbrev semOf : Cell → SemLoc sig
  | .bar => .reg barS
  | .snd j => .dma (sendS j)
  | .rcv j => .dma (recvS j)

abbrev cellList : List Cell := [.bar, .snd 0, .snd 1, .snd 2, .rcv 0, .rcv 1, .rcv 2]

/-- and which cell a counter belongs to, if any. -/
def which (s : SemLoc sig) : Option Cell := cellList.find? fun k => decide (semOf k = s)

theorem which_semOf (k : Cell) : which (semOf k) = some k := by revert k; decide
theorem semOf_inj : Function.Injective semOf := fun a b h => Option.some.inj ((which_semOf a).symm.trans ((congrArg which h).trans (which_semOf b)))

/-- Cell `k` of device `c`. -/
abbrev gcell (ck : Dev nD × Cell) : GSem nD τ sig := ((ck.1 : Thread nD τ), semOf ck.2)

theorem gcell_inj : Function.Injective gcell := fun a b h =>
  Prod.ext (congrArg (fun g : GSem nD τ sig => g.1.1) h) (semOf_inj (congrArg Prod.snd h))

/-! ## The ghost state's algebra -/

/-- The pipeline's rounds beside this protocol's; the protocol's duties are numbered by the three peers. -/
abbrev UG : Type := UR sig nD τ × URounds (GSem nD τ sig) (Fin 3)

local notation "𝕄" => MT nD τ sig Unit (Elt F) ℕ UG ℕ

abbrev EP : Emb (UR sig nD τ) (MT nD τ sig Unit (Elt F) ℕ UG ℕ) := embL
abbrev EG : Emb (URounds (GSem nD τ sig) (Fin 3)) (MT nD τ sig Unit (Elt F) ℕ UG ℕ) := embR

omit [FloatOps F] in
/-- A family over the seven cells, listed. -/
theorem bigSep_cells (Φ : Cell → sProp 𝕄) :
    bigSep Finset.univ Φ = iprop(Φ .bar ∗ Φ (.snd 0) ∗ Φ (.snd 1) ∗ Φ (.snd 2) ∗ Φ (.rcv 0) ∗ Φ (.rcv 1) ∗ Φ (.rcv 2)) :=
  bigSep_univ_eq_bigSepL cellList (by decide) (by decide) Φ
omit [FloatOps F] in
/-- A family over the three peers, listed. -/
theorem bigSep_peers (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A family over the devices, listed from device `c` on. -/
theorem bigSep_devs (c : Dev nD) (Φ : Dev nD → sProp 𝕄) :
    bigSep Finset.univ Φ = iprop(Φ c ∗ Φ (peer c 0) ∗ Φ (peer c 1) ∗ Φ (peer c 2)) :=
  bigSep_univ_eq_bigSepL [c, peer c 0, peer c 1, peer c 2] (all_devs c) (devs_nodup c) Φ

/-! ## Holding a slot -/

/-- Slot `s` of device `d`'s buffer, held at share `q` with contents `f`. -/
def slotPts (d s : Dev nD) (q : PosShare TreeShare) (f : (cc0_scratch0 : Ref sig .tc).ty.Contents (Elt F)) : sProp 𝕄 :=
  (slotM s).view.loc (d : Thread nD τ) ↦[(slotM s).view.set]{q} f

/-- The whole buffer of device `d`. -/
def bufPts (d : Dev nD) (q : PosShare TreeShare) (f : (cc0_scratch0 : Ref sig .tc).ty.Contents (Elt F)) : sProp 𝕄 :=
  ((d : Thread nD τ).loc cc0_scratch0) ↦{q} f

omit [FloatOps F] in
instance slotPts_storable (d s : Dev nD) (q) (f) : BI.Storable (upEmb : UEmb _ 𝕄) (slotPts (F := F) d s q f) := by unfold slotPts; infer_instance

omit [FloatOps F] in
/-- The buffer is its four slots. -/
theorem bufPts_slots (d c : Dev nD) (q : PosShare TreeShare) (f : (cc0_scratch0 : Ref sig .tc).ty.Contents (Elt F)) :
    bufPts d q f = iprop(slotPts d c q f ∗ slotPts d (peer c 0) q f ∗ slotPts d (peer c 1) q f ∗ slotPts d (peer c 2) q f) := by
  rw [← bigSep_devs c fun s => slotPts d s q f]
  unfold bufPts slotPts
  rw [← slots_cover]
  exact pointsTo_biUnion (ℓ := (d : Thread nD τ).loc cc0_scratch0) Finset.univ (fun s => (slotM s).view.set) fun s _ s' _ h => slots_disjoint h

omit [FloatOps F] in
theorem slotPts_congr (d s : Dev nD) (q : PosShare TreeShare) {f g : (cc0_scratch0 : Ref sig .tc).ty.Contents (Elt F)}
    (h : ∀ i ∈ (slotM s).view.set, f i = g i) : slotPts d s q f = slotPts d s q g := by
  unfold slotPts; exact pointsTo_congr h

/-- What is left of the full share when copies have taken the right half of what was left, `n` times. -/
def leftOver : ℕ → PosShare TreeShare
  | 0 => fullShare
  | n + 1 => (leftOver n).left
/-- What a device keeps of a slot while three copies read it. -/
abbrev kept : PosShare TreeShare := leftOver 3
/-- What copy `j` takes. -/
def lent (j : Fin 3) : PosShare TreeShare := (leftOver j.val).right

omit [FloatOps F] in
/-- The full share is the kept one and the three lent ones. -/
theorem slotPts_lend (d s : Dev nD) (f : (cc0_scratch0 : Ref sig .tc).ty.Contents (Elt F)) :
    slotPts d s fullShare f ⊣⊢ iprop(slotPts d s kept f ∗ slotPts d s (lent 0) f ∗ slotPts d s (lent 1) f ∗ slotPts d s (lent 2) f) := by
  have step (n : Fin 3) : slotPts d s (leftOver n.val) f ⊣⊢ iprop(slotPts d s (leftOver (n.val + 1)) f ∗ slotPts d s (lent n) f) := by
    unfold slotPts; exact pointsTo_share (PosShare.mem_left_op_right (leftOver n.val))
  have h0 : slotPts d s fullShare f ⊣⊢ iprop(slotPts d s (leftOver 1) f ∗ slotPts d s (lent 0) f) := step 0
  have h1 : slotPts d s (leftOver 1) f ⊣⊢ iprop(slotPts d s (leftOver 2) f ∗ slotPts d s (lent 1) f) := step 1
  have h2 : slotPts d s (leftOver 2) f ⊣⊢ iprop(slotPts d s kept f ∗ slotPts d s (lent 2) f) := step 2
  constructor
  · iintro H
    ihave H := h0.1 $$ H
    icases H with ⟨H, H0⟩
    ihave H := h1.1 $$ H
    icases H with ⟨H, H1⟩
    ihave H := h2.1 $$ H
    icases H with ⟨H, H2⟩
    isplitl [H]; · iexact H
    isplitl [H0]; · iexact H0
    isplitl [H1]; · iexact H1
    iexact H2
  · iintro ⟨H, H0, H1, H2⟩
    iapply h0.2
    isplitr [H0]
    · iapply h1.2
      isplitr [H1]
      · iapply h2.2
        isplitl [H]; · iexact H
        iexact H2
      · iexact H1
    · iexact H0

/-! ## The schedule -/

variable (m : (ℓ : Loc nD τ sig) → Buf (Elt F) ℓ)

/-- The credit of one copy. -/
def N : ℕ := (cc0_scratch0 : Ref sig .tc).dmaCredit S2x256 .f32
theorem slot_credit (c : Dev nD) : (slotM c).view.dmaCredit = N := rfl
theorem N_pos : 0 < N := (View.dmaCredit_pos _ (by decide)).trans_eq (slot_credit 0)

/-- A unit on `p`'s barrier from the device whose peer number `j` it is brings `p` its slot in that device's buffer, and
    that the device has its receive semaphore ready. -/
def barPay (p : Dev nD) (j : Fin 3) : sProp 𝕄 :=
  iprop((∃ f, slotPts (F := F) (peer p j.rev) p fullShare f) ∗ reached EG (gcell (peer p j.rev, .rcv j.rev)) 0)
/-- The credit of a finished source brings back what the copy took of the own slot. -/
def sndPay (c : Dev nD) (j : Fin 3) : sProp 𝕄 := slotPts c c (lent j) (gath m)
/-- The credit of a landed copy brings the sender's slot, filled. -/
def rcvPay (c : Dev nD) (j : Fin 3) : sProp 𝕄 := slotPts c (peer c j.rev) fullShare (gath m)

/-- One round: a barrier cell has three duties of a unit, the others one duty of a copy's credit. -/
def plan : Rounds.Schedule (GSem nD τ sig) (Fin 3) 𝕄 where
  duties g r := if r = 0 ∧ g.1.2 = .tc then (match which g.2 with | some .bar => Finset.univ | some _ => {0} | none => ∅) else ∅
  unitless _ := False
  amount g _ _ := match which g.2 with | some .bar => 1 | _ => N
  payload g _ d := match which g.2 with
    | some .bar => barPay g.1.1 d
    | some (.snd j) => sndPay m g.1.1 j
    | some (.rcv j) => rcvPay m g.1.1 j
    | none => iprop(emp)
  amount_pos g _ _ _ := by
    rcases which g.2 with _ | (_ | _ | _)
    · exact N_pos
    · exact Nat.one_pos
    · exact N_pos
    · exact N_pos

instance plan_storable (g : GSem nD τ sig) (r : ℕ) (d : Fin 3) : BI.Storable (upEmb : UEmb _ 𝕄) ((plan (F := F) m).payload g r d) := by
  dsimp only [plan]
  unfold barPay sndPay rcvPay
  rcases which g.2 with _ | (_ | _ | _) <;> dsimp only <;> infer_instance

section Facts
variable (c : Dev nD) (j : Fin 3)

theorem duties_bar : (plan (F := F) m).duties (gcell (c, .bar)) 0 = Finset.univ := by
  dsimp only [plan]; rw [if_pos ⟨rfl, rfl⟩, which_semOf]
theorem duties_snd : (plan (F := F) m).duties (gcell (c, .snd j)) 0 = {0} := by
  dsimp only [plan]; rw [if_pos ⟨rfl, rfl⟩, which_semOf]
theorem duties_rcv : (plan (F := F) m).duties (gcell (c, .rcv j)) 0 = {0} := by
  dsimp only [plan]; rw [if_pos ⟨rfl, rfl⟩, which_semOf]
theorem duties_later (g : GSem nD τ sig) : ∀ r, 1 ≤ r → (plan (F := F) m).duties g r = ∅ :=
  fun r hr => by dsimp only [plan]; rw [if_neg fun h => by omega]
theorem amount_bar (d : Fin 3) : (plan (F := F) m).amount (gcell (c, .bar)) 0 d = 1 := by dsimp only [plan]; rw [which_semOf]
theorem amount_snd (d : Fin 3) : (plan (F := F) m).amount (gcell (c, .snd j)) 0 d = N := by dsimp only [plan]; rw [which_semOf]
theorem amount_rcv (d : Fin 3) : (plan (F := F) m).amount (gcell (c, .rcv j)) 0 d = N := by dsimp only [plan]; rw [which_semOf]
theorem payload_bar (d : Fin 3) : (plan (F := F) m).payload (gcell (c, .bar)) 0 d = barPay c d := by dsimp only [plan]; rw [which_semOf]
theorem payload_snd (d : Fin 3) : (plan (F := F) m).payload (gcell (c, .snd j)) 0 d = sndPay m c j := by dsimp only [plan]; rw [which_semOf]
theorem payload_rcv (d : Fin 3) : (plan (F := F) m).payload (gcell (c, .rcv j)) 0 d = rcvPay m c j := by dsimp only [plan]; rw [which_semOf]

theorem expect_bar : (plan (F := F) m).expect (gcell (c, .bar)) 0 = 3 := by
  unfold Schedule.expect Schedule.amountOf
  rw [duties_bar, Finset.sum_congr rfl fun d _ => amount_bar m c d]; rfl
theorem expect_snd : (plan (F := F) m).expect (gcell (c, .snd j)) 0 = N := by
  unfold Schedule.expect Schedule.amountOf; rw [duties_snd, Finset.sum_singleton, amount_snd]
theorem expect_rcv : (plan (F := F) m).expect (gcell (c, .rcv j)) 0 = N := by
  unfold Schedule.expect Schedule.amountOf; rw [duties_rcv, Finset.sum_singleton, amount_rcv]

/-- All of a barrier's round brings. -/
theorem round_bar : bigSep ((plan (F := F) m).duties (gcell (c, .bar)) 0 \ ∅) (fun d => (plan (F := F) m).payload (gcell (c, .bar)) 0 d)
    = iprop(barPay c 0 ∗ barPay c 1 ∗ barPay c 2) := by
  rw [Finset.sdiff_empty, duties_bar, bigSep_peers, payload_bar, payload_bar, payload_bar]
/-- All of a send cell's. -/
theorem round_snd : bigSep ((plan (F := F) m).duties (gcell (c, .snd j)) 0 \ ∅) (fun d => (plan (F := F) m).payload (gcell (c, .snd j)) 0 d)
    = sndPay m c j := by rw [Finset.sdiff_empty, duties_snd, bigSep_singleton, payload_snd]
/-- All of a receive cell's. -/
theorem round_rcv : bigSep ((plan (F := F) m).duties (gcell (c, .rcv j)) 0 \ ∅) (fun d => (plan (F := F) m).payload (gcell (c, .rcv j)) 0 d)
    = rcvPay m c j := by rw [Finset.sdiff_empty, duties_rcv, bigSep_singleton, payload_rcv]

end Facts

/-! ## What a device owes -/

/-- The three landings it owes its peers once it has signalled, the last copy's first; -/
def owedCopies (c : Dev nD) : CellTallies nD τ sig Unit :=
  tallyAt (gcell (peer c 2, .rcv 2)) () N + tallyAt (gcell (peer c 0, .rcv 0)) () N + tallyAt (gcell (peer c 1, .rcv 1)) () N
/-- at the start also the three units. -/
def owedStart (c : Dev nD) : CellTallies nD τ sig Unit :=
  owedCopies c + tallyAt (gcell (peer c 2, .bar)) () 1 + tallyAt (gcell (peer c 1, .bar)) () 1 + tallyAt (gcell (peer c 0, .bar)) () 1

def lvSet (g : GSem nD τ sig) : Finset Unit := if g.1.2 = .tc then {()} else ∅
/-- Barriers come before landings, everything else before both. -/
def lvOf (g : GSem nD τ sig) (_ : Unit) : ℕ := match which g.2 with | some .bar => 1 | some (.rcv _) => 2 | _ => 0

theorem lvSet_other (g : GSem nD τ sig) (h : g.1.2 ≠ .tc) : lvSet g = ∅ := if_neg h
theorem lvSet_tc (c : Dev nD) (s : SemLoc sig) : lvSet ((c : Thread nD τ), s) = {()} := if_pos rfl

/-- One tally is at its cell only. -/
theorem tallyAt_pos {g h : GSem nD τ sig} {n : ℕ} {u : Unit} (hp : 0 < (tallyAt h () n : CellTallies nD τ sig Unit) g u) : g = h := by
  by_contra hn
  rw [tallyAt_apply, if_neg fun h' => hn h'.1] at hp
  exact Nat.lt_irrefl 0 hp

/-- What is owed after the signals is owed to receive cells, -/
theorem owedCopies_pos {c : Dev nD} {g : GSem nD τ sig} {u : Unit} (h : 0 < owedCopies c g u) : ∃ d j, g = gcell (d, .rcv j) := by
  unfold owedCopies at h
  rw [Pi.add_apply, Finsupp.add_apply, Pi.add_apply, Finsupp.add_apply] at h
  rcases Nat.lt_or_ge 0 ((tallyAt (gcell (peer c 1, .rcv 1)) () N : CellTallies nD τ sig Unit) g u) with h1 | h1
  · exact ⟨_, _, tallyAt_pos h1⟩
  rcases Nat.lt_or_ge 0 ((tallyAt (gcell (peer c 0, .rcv 0)) () N : CellTallies nD τ sig Unit) g u) with h0 | h0
  · exact ⟨_, _, tallyAt_pos h0⟩
  exact ⟨_, _, tallyAt_pos (h := gcell (peer c 2, .rcv 2)) (n := N) (u := u) (by omega)⟩
/-- what is owed at the start to receive cells and barriers. -/
theorem owedStart_pos {c : Dev nD} {g : GSem nD τ sig} {u : Unit} (h : 0 < owedStart c g u) :
    (∃ d j, g = gcell (d, .rcv j)) ∨ ∃ d, g = gcell (d, .bar) := by
  unfold owedStart at h
  rw [Pi.add_apply, Finsupp.add_apply, Pi.add_apply, Finsupp.add_apply, Pi.add_apply, Finsupp.add_apply] at h
  rcases Nat.lt_or_ge 0 (owedCopies c g u) with h1 | h1
  · exact .inl (owedCopies_pos h1)
  refine .inr ?_
  rcases Nat.lt_or_ge 0 ((tallyAt (gcell (peer c 2, .bar)) () 1 : CellTallies nD τ sig Unit) g u) with h2 | h2
  · exact ⟨_, tallyAt_pos h2⟩
  rcases Nat.lt_or_ge 0 ((tallyAt (gcell (peer c 1, .bar)) () 1 : CellTallies nD τ sig Unit) g u) with h3 | h3
  · exact ⟨_, tallyAt_pos h3⟩
  exact ⟨_, tallyAt_pos (h := gcell (peer c 0, .bar)) (n := 1) (u := u) (by omega)⟩

omit [FloatOps F] in
/-- A semaphore of no protocol cell may be waited on whatever of this is owed. -/
theorem mayWait_other (c : Dev nD) (s : SemLoc sig) (hs : which s = none) (O : CellTallies nD τ sig Unit) (hO : O = owedStart c ∨ O = 0) :
    (levAts lvSet lvOf : sProp 𝕄) ⊢ MayWait (c : Thread nD τ) s () O := by
  rcases hO with rfl | rfl
  · refine MayOwe.of_cut (L := lvSet) (lev := lvOf) 0 (fun p hp => ?_) (fun g u hg => ?_) (fun p hp => ?_) (fun g u hg => ?_)
    · rw [Finset.mem_singleton.mp hp, lvSet_tc]; exact Finset.mem_singleton_self _
    · rcases owedStart_pos hg with ⟨d, j, rfl⟩ | ⟨d, rfl⟩ <;> exact Finset.mem_singleton_self _
    · rw [Finset.mem_singleton.mp hp]; dsimp only [lvOf]; rw [hs]
    · rcases owedStart_pos hg with ⟨d, j, rfl⟩ | ⟨d, rfl⟩ <;> dsimp only [lvOf] <;> rw [which_semOf] <;> exact Nat.succ_pos _
  · rw [MayWait_zero]; iintro -; iempintro

omit [FloatOps F] in
/-- The barrier may be waited on with the landings owed. -/
theorem mayWait_bar (c : Dev nD) : (levAts lvSet lvOf : sProp 𝕄) ⊢ MayWait (c : Thread nD τ) (semOf .bar) () (owedCopies c) := by
  refine MayOwe.of_cut (L := lvSet) (lev := lvOf) 1 (fun p hp => ?_) (fun g u hg => ?_) (fun p hp => ?_) (fun g u hg => ?_)
  · rw [Finset.mem_singleton.mp hp, lvSet_tc]; exact Finset.mem_singleton_self _
  · rcases owedCopies_pos hg with ⟨d, j, rfl⟩; exact Finset.mem_singleton_self _
  · rw [Finset.mem_singleton.mp hp]; dsimp only [lvOf]; rw [which_semOf]
  · rcases owedCopies_pos hg with ⟨d, j, rfl⟩; dsimp only [lvOf]; rw [which_semOf]; exact Nat.lt_succ_self 1

/-! ## What a device holds -/

/-- Every cell of every device: its invariant, under the names the launch found, and that it is in its round. -/
def records (K : Dev nD × Cell → ℕ) : sProp 𝕄 :=
  iprop((bigSep Finset.univ fun ck : Dev nD × Cell => cellInv EG (plan m) (K ck) (gcell ck))
    ∗ bigSep Finset.univ fun ck : Dev nD × Cell => reached EG (gcell ck) 0)

instance records_persistent (K : Dev nD × Cell → ℕ) : BI.Persistent (records m K) := by unfold records; infer_instance

theorem records_inv (K : Dev nD × Cell → ℕ) (ck : Dev nD × Cell) : records m K ⊢ cellInv EG (plan m) (K ck) (gcell ck) := by
  unfold records
  iintro ⟨H, -⟩
  iapply (show (bigSep Finset.univ fun ck : Dev nD × Cell => (cellInv EG (plan m) (K ck) (gcell ck) : sProp 𝕄)) ⊢ _ from bigSep_elim (Finset.mem_univ ck))
  iexact H
theorem records_reached (K : Dev nD × Cell → ℕ) (ck : Dev nD × Cell) : records m K ⊢ reached EG (gcell ck) 0 := by
  unfold records
  iintro ⟨-, H⟩
  iapply (show (bigSep Finset.univ fun ck : Dev nD × Cell => (reached EG (gcell ck) 0 : sProp 𝕄)) ⊢ _ from bigSep_elim (Finset.mem_univ ck))
  iexact H

/-- A device's place at its own seven cells. -/
def places (c : Dev nD) : sProp 𝕄 := bigSep Finset.univ fun k : Cell => atPos EG (gcell (c, k)) 0 ∅ 0

/-- The tokens of what it is to do: signal its peers, finish its sources, land at its peers. -/
def errands (c : Dev nD) : sProp 𝕄 :=
  iprop((bigSep Finset.univ fun j : Fin 3 => dutyTok EG (gcell (peer c j, .bar)) 0 j)
    ∗ (bigSep Finset.univ fun j : Fin 3 => dutyTok EG (gcell (c, .snd j)) 0 0)
    ∗ (bigSep Finset.univ fun j : Fin 3 => dutyTok EG (gcell (peer c j, .rcv j)) 0 0))

/-- The ghost state of a device at the start, -/
def ghost (c : Dev nD) : sProp 𝕄 := iprop(∃ K, records m K ∗ places c ∗ errands c)

/-- with the credit it will wait for, and the levels. -/
def atStart (c : Dev nD) : sProp 𝕄 :=
  iprop(ghost m c ∗ cred (tallyAt (gcell (c, .bar)) () 3)
    ∗ (bigSep Finset.univ fun j : Fin 3 => cred (tallyAt (gcell (c, .rcv j)) () N)) ∗ levAts lvSet lvOf)

/-- At the end: the buffer filled, the seven counters back at zero. -/
def atEnd (c : Dev nD) : sProp 𝕄 :=
  iprop(bufPts c fullShare (gath m) ∗ bigSep Finset.univ fun k : Cell => semVal (gcell (c, k)) 0)

end Cert.KernelIdealGather

end
-- ==== Proof.KernelIdealSteps.lean ====
/-
# The steps of the argmax kernel

One rule for each kind of step the kernel takes with its peers: a unit to a peer's barrier, the wait for the three units, a
copy to a peer, the wait for a landing, the wait for a source. Each rule is stated once, for any peer.
-/
module

public import proofs.«01_k».proof.Proof.KernelIdealProtocol

@[expose] public section

noncomputable section

namespace Cert.KernelIdealGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

variable (m : (ℓ : Loc nD τ sig) → Buf (Elt F) ℓ)

abbrev vars₀ : Variants := Variants.none

/-- What device `c` still owes, whatever it has waited on. -/
def owing (c : Dev nD) (O : CellTallies nD τ sig Unit) : sProp 𝕄 := iprop(∃ W, owes (c : Thread nD τ) O W)

variable (K : Dev nD × Cell → ℕ) {α : Type} {Q : α → sProp (MT nD τ sig Unit (Elt F) ℕ UG ℕ)} {k : PUnit → Prog (TpuEff nD τ sig (Elt F) Λ₀ .tc) α}

/-- A unit to peer `j`, with the slot that peer fills. -/
theorem signal_peer (c p : Dev nD) (j : Fin 3) (hp : p = peer c j) (O : CellTallies nD τ sig Unit)
    (f : (cc0_scratch0 : Ref sig .tc).ty.Contents (Elt F)) :
    iprop(records m K ∗ owing (F := F) c (O + tallyAt (gcell (peer c j, .bar)) () 1) ∗ dutyTok EG (gcell (peer c j, .bar)) 0 j
        ∗ slotPts c (peer c j) fullShare f)
      ⊢ iprop((owing c O -∗ wp frame (wpE (defs₀ (F := F)) vars₀ (c : Thread nD τ) none) Set.univ (k ⟨⟩) Q)
          -∗ wp frame (wpE (defs₀ (F := F)) vars₀ (c : Thread nD τ) none) Set.univ
              (.op (.semSignal (p, .tc) barS (1#32 : BitVec 32).toInt) k) Q) := by
  subst hp
  unfold owing
  iintro ⟨#HR, ⟨%W, HO⟩, Ht, Hs⟩ Hk
  iapply (Rounds.wp_signal vars₀ EG (plan m) (c : Thread nD τ) none (dst := (peer c j : Thread nD τ)) (κ := K (peer c j, .bar))
      (d := j) ((duties_bar m (peer c j)).symm ▸ Finset.mem_univ j) (k' := 1) (amount_bar m (peer c j) j) () O rfl) $$ [HO Ht Hs]
  · isplitr; · iapply (records_inv m K (peer c j, .bar)); iexact HR
    isplitl [HO]; · iexact HO
    isplitl [Ht]; · iexact Ht
    isplitl [Hs]
    · rw [payload_bar]; unfold barPay; rw [peer_rev]
      isplitl [Hs]; · iexists f; iexact Hs
      iapply (records_reached m K (c, .rcv j.rev)); iexact HR
    · iapply (records_reached m K (peer c j, .bar)); iexact HR
  iintro HO
  iapply Hk
  iexists W; iexact HO

/-- The wait for the three peers: their slots for this device's chunk. -/
theorem wait_peers (c : Dev nD) :
    iprop(records m K ∗ cred (tallyAt (gcell (c, .bar)) () 3) ∗ owing (F := F) c (owedCopies c) ∗ levAts lvSet lvOf
        ∗ atPos EG (gcell (c, .bar)) 0 ∅ 0)
      ⊢ iprop(((owing c (owedCopies c) ∗ atPos EG (gcell (c, .bar)) 1 ∅ 0 ∗ barPay (F := F) c 0 ∗ barPay (F := F) c 1 ∗ barPay (F := F) c 2)
            -∗ wp frame (wpE (defs₀ (F := F)) vars₀ (c : Thread nD τ) none) Set.univ (k ⟨⟩) Q)
          -∗ wp frame (wpE (defs₀ (F := F)) vars₀ (c : Thread nD τ) none) Set.univ (.op (.semWait barS (3#32 : BitVec 32).toInt) k) Q) := by
  unfold owing
  iintro ⟨#HR, Hc, ⟨%W, HO⟩, #Hl, Ha⟩ Hk
  iapply (Rounds.wp_wait_rest_token vars₀ EG (plan m) (c : Thread nD τ) none (κ := K (c, .bar))
      (wpE_semWait_eq vars₀ (c : Thread nD τ) none Set.univ) (Set.mem_univ _) () (O := owedCopies c) (W := W) (R := 0) (m := 0) (T := ∅)
      (k' := 3) ((Nat.zero_add 3).trans (expect_bar m c).symm)) $$ [Hc HO Ha]
  · isplitr; · iapply (records_inv m K (c, .bar)); iexact HR
    isplitl [Hc]; · iexact Hc
    isplitl [HO]; · iexact HO
    isplitr; · iapply (mayWait_bar c); iexact Hl
    iexact Ha
  iintro ⟨HO, Ha, -, Hp⟩
  ihave Hp := (Entails.of_eq (round_bar m c)) $$ Hp
  iapply Hk
  isplitl [HO]; · iexists _; iexact HO
  isplitl [Ha]; · iexact Ha
  iexact Hp

/-- A copy of the own slot to a peer's, over any two cells that bring the two slots back. -/
theorem copy_slot_to (c p : Dev nD) (q : PosShare TreeShare) (sS sV : DmaSem sig)
    {hsc : (slotM c : Memref sig (Dev.tc p : Thread nD τ).2.kind .vmem S2x256 .f32).view.ref.isScScratch = false}
    {hsrc : (slotM c).view.WordExact} {hdst : (slotM c).view.WordExact}
    {hsem : DmaTarget.Typed .vmem (.dma sV) (.remote (Dev.tc p : Thread nD τ) (slotM c) (.dma sS) hsc)}
    (O : CellTallies nD τ sig Unit) (f : (cc0_scratch0 : Ref sig .tc).ty.Contents (Elt F)) (W : Waits sig Unit) (κ₁ κ₂ : ℕ)
    (hd₁ : (0 : Fin 3) ∈ (plan (F := F) m).duties ((c : Thread nD τ), .dma sS) 0) (hd₂ : (0 : Fin 3) ∈ (plan (F := F) m).duties ((p : Thread nD τ), .dma sV) 0)
    (hk₁ : (plan (F := F) m).amount ((c : Thread nD τ), .dma sS) 0 0 = N) (hk₂ : (plan (F := F) m).amount ((p : Thread nD τ), .dma sV) 0 0 = N)
    (hp₁ : slotPts c c q (gath m) ⊢ (plan (F := F) m).payload ((c : Thread nD τ), .dma sS) 0 0)
    (hp₂ : slotPts p c fullShare (gath m) ⊢ (plan (F := F) m).payload ((p : Thread nD τ), .dma sV) 0 0) :
    iprop(cellInv EG (plan m) κ₁ ((c : Thread nD τ), .dma sS) ∗ cellInv EG (plan m) κ₂ ((p : Thread nD τ), .dma sV)
        ∗ slotPts c c q (gath m) ∗ slotPts p c fullShare f
        ∗ owes (c : Thread nD τ) (O + tallyAt ((p : Thread nD τ), .dma sV) () N) W
        ∗ dutyTok EG ((c : Thread nD τ), .dma sS) 0 0 ∗ reached EG ((c : Thread nD τ), .dma sS) 0
        ∗ dutyTok EG ((p : Thread nD τ), .dma sV) 0 0 ∗ reached EG ((p : Thread nD τ), .dma sV) 0)
      ⊢ iprop(((cred (tallyAt ((c : Thread nD τ), .dma sS) () N) ∗ owes (c : Thread nD τ) O W)
            -∗ wp frame (wpE (defs₀ (F := F)) vars₀ (c : Thread nD τ) none) Set.univ (k ⟨⟩) Q)
          -∗ wp frame (wpE (defs₀ (F := F)) vars₀ (c : Thread nD τ) none) Set.univ
              (.op (.enqueueDma (slotM c) (.remote (Dev.tc p : Thread nD τ) (slotM c) (.dma sS) hsc) (.dma sV) hsrc hdst hsem) k) Q) := by
  have hp₂' := (Entails.of_eq (slotPts_congr (F := F) p c fullShare fun i hi => copy_slot c f (gath m) i hi)).trans hp₂
  unfold slotPts at hp₁ hp₂' ⊢
  exact Rounds.wp_send_pointsTo vars₀ EG (plan m) (c : Thread nD τ) none hd₁ hd₂ () () N (slot_credit c) hk₁ hk₂ O rfl hp₁ hp₂'

/-- A copy of the own slot to peer `j`: what it takes of the own slot comes back with the credit `cred`. -/
theorem copy_peer (c p : Dev nD) (j : Fin 3) (hp : p = peer c j) {sS sV : DmaSem sig} (hS : sS = sendS j) (hV : sV = recvS j)
    {hsc : (slotM c : Memref sig (Dev.tc p : Thread nD τ).2.kind .vmem S2x256 .f32).view.ref.isScScratch = false}
    {hsrc : (slotM c).view.WordExact} {hdst : (slotM c).view.WordExact}
    {hsem : DmaTarget.Typed .vmem (.dma sV) (.remote (Dev.tc p : Thread nD τ) (slotM c) (.dma sS) hsc)}
    (O : CellTallies nD τ sig Unit) (f : (cc0_scratch0 : Ref sig .tc).ty.Contents (Elt F)) :
    iprop(records m K ∗ slotPts c c (lent j) (gath m) ∗ slotPts (peer c j) c fullShare f
        ∗ owing (F := F) c (O + tallyAt (gcell (peer c j, .rcv j)) () N)
        ∗ dutyTok EG (gcell (c, .snd j)) 0 0 ∗ dutyTok EG (gcell (peer c j, .rcv j)) 0 0)
      ⊢ iprop(((cred (tallyAt (gcell (c, .snd j)) () N) ∗ owing c O)
            -∗ wp frame (wpE (defs₀ (F := F)) vars₀ (c : Thread nD τ) none) Set.univ (k ⟨⟩) Q)
          -∗ wp frame (wpE (defs₀ (F := F)) vars₀ (c : Thread nD τ) none) Set.univ
              (.op (.enqueueDma (slotM c) (.remote (Dev.tc p : Thread nD τ) (slotM c) (.dma sS) hsc) (.dma sV) hsrc hdst hsem) k) Q) := by
  subst hp hS hV
  unfold owing
  iintro ⟨#HR, Hs, Hd, ⟨%W, HO⟩, HtS, HtV⟩ Hk
  iapply (copy_slot_to m c (peer c j) (lent j) (sendS j) (recvS j) O f W (K (c, .snd j)) (K (peer c j, .rcv j))
    ((duties_snd m c j).symm ▸ Finset.mem_singleton_self _) ((duties_rcv m (peer c j) j).symm ▸ Finset.mem_singleton_self _)
    (amount_snd m c j 0) (amount_rcv m (peer c j) j 0)
    (Entails.of_eq ((payload_snd m c j 0).trans (by unfold sndPay; rfl)).symm)
    (Entails.of_eq ((payload_rcv m (peer c j) j 0).trans (by unfold rcvPay; rw [peer_rev])).symm)) $$ [Hs Hd HO HtS HtV]
  · isplitr; · iapply (records_inv m K (c, .snd j)); iexact HR
    isplitr; · iapply (records_inv m K (peer c j, .rcv j)); iexact HR
    isplitl [Hs]; · iexact Hs
    isplitl [Hd]; · iexact Hd
    isplitl [HO]; · iexact HO
    isplitl [HtS]; · iexact HtS
    isplitr; · iapply (records_reached m K (c, .snd j)); iexact HR
    isplitl [HtV]; · iexact HtV
    iapply (records_reached m K (peer c j, .rcv j)); iexact HR
  iintro ⟨Hc, HO⟩
  iapply Hk
  isplitl [Hc]; · iexact Hc
  iexists W; iexact HO

/-- The wait for the landing of the copy a peer made as its number `j`: the peer's slot, filled. -/
theorem wait_landing (c : Dev nD) (j : Fin 3) {s : DmaSem sig} (hs : s = recvS j)
    {hsrc : (slotM c).view.WordExact} {hdst : (slotM c).view.WordExact} :
    iprop(records m K ∗ cred (tallyAt (gcell (c, .rcv j)) () N) ∗ owing (F := F) c 0 ∗ atPos EG (gcell (c, .rcv j)) 0 ∅ 0)
      ⊢ iprop(((owing c 0 ∗ atPos EG (gcell (c, .rcv j)) 1 ∅ 0 ∗ slotPts c (peer c j.rev) fullShare (gath m))
            -∗ wp frame (wpE (defs₀ (F := F)) vars₀ (c : Thread nD τ) none) Set.univ (k ⟨⟩) Q)
          -∗ wp frame (wpE (defs₀ (F := F)) vars₀ (c : Thread nD τ) none) Set.univ (.op (.waitDma2 s (slotM c) (slotM c) hsrc hdst) k) Q) := by
  subst hs
  unfold owing
  iintro ⟨#HR, Hc, ⟨%W, HO⟩, Ha⟩ Hk
  iapply (Rounds.wp_wait_rest_token vars₀ EG (plan m) (c : Thread nD τ) none (κ := K (c, .rcv j))
      (wpE_waitDma2_eq vars₀ (c : Thread nD τ) none Set.univ (src := slotM c) (dst := slotM c) (hsrc := hsrc) (hdst := hdst)) (Set.mem_univ _) () (O := 0) (W := W) (R := 0) (m := 0) (T := ∅)
      ((Nat.zero_add _).trans ((slot_credit c).trans (expect_rcv m c j).symm))) $$ [Hc HO Ha]
  · isplitr; · iapply (records_inv m K (c, .rcv j)); iexact HR
    isplitl [Hc]; · rw [slot_credit c]; iexact Hc
    isplitl [HO]; · iexact HO
    isplitr; · rw [MayWait_zero]; iempintro
    iexact Ha
  iintro ⟨HO, Ha, -, Hp⟩
  ihave Hp := (Entails.of_eq ((round_rcv m c j).trans (by unfold rcvPay; rfl) : _ = slotPts c (peer c j.rev) fullShare (gath m))) $$ Hp
  iapply Hk
  isplitl [HO]; · iexists _; iexact HO
  isplitl [Ha]; · iexact Ha
  iexact Hp

/-- The wait for the source of copy `j`: what the copy took of the own slot. -/
theorem wait_source (c : Dev nD) (j : Fin 3) {s : DmaSem sig} (hs : s = sendS j)
    {hsrc : (slotM c).view.WordExact} {hdst : (slotM c).view.WordExact} :
    iprop(records m K ∗ cred (tallyAt (gcell (c, .snd j)) () N) ∗ owing (F := F) c 0 ∗ atPos EG (gcell (c, .snd j)) 0 ∅ 0)
      ⊢ iprop(((owing c 0 ∗ atPos EG (gcell (c, .snd j)) 1 ∅ 0 ∗ slotPts c c (lent j) (gath m))
            -∗ wp frame (wpE (defs₀ (F := F)) vars₀ (c : Thread nD τ) none) Set.univ (k ⟨⟩) Q)
          -∗ wp frame (wpE (defs₀ (F := F)) vars₀ (c : Thread nD τ) none) Set.univ (.op (.waitDma2 s (slotM c) (slotM c) hsrc hdst) k) Q) := by
  subst hs
  unfold owing
  iintro ⟨#HR, Hc, ⟨%W, HO⟩, Ha⟩ Hk
  iapply (Rounds.wp_wait_rest_token vars₀ EG (plan m) (c : Thread nD τ) none (κ := K (c, .snd j))
      (wpE_waitDma2_eq vars₀ (c : Thread nD τ) none Set.univ (src := slotM c) (dst := slotM c) (hsrc := hsrc) (hdst := hdst)) (Set.mem_univ _) () (O := 0) (W := W) (R := 0) (m := 0) (T := ∅)
      ((Nat.zero_add _).trans ((slot_credit c).trans (expect_snd m c j).symm))) $$ [Hc HO Ha]
  · isplitr; · iapply (records_inv m K (c, .snd j)); iexact HR
    isplitl [Hc]; · rw [slot_credit c]; iexact Hc
    isplitl [HO]; · iexact HO
    isplitr; · rw [MayWait_zero]; iempintro
    iexact Ha
  iintro ⟨HO, Ha, -, Hp⟩
  ihave Hp := (Entails.of_eq ((round_snd m c j).trans (by unfold sndPay; rfl) : _ = slotPts c c (lent j) (gath m))) $$ Hp
  iapply Hk
  isplitl [HO]; · iexists _; iexact HO
  isplitl [Ha]; · iexact Ha
  iexact Hp

/-- A load of the own slot, before it is stored: its value is not used. -/
theorem load_own (c : Dev nD) (q : PosShare TreeShare) (f : (cc0_scratch0 : Ref sig .tc).ty.Contents (Elt F))
    {hl : gatM.view.LoadsAt (slotR c).toLoadRect} {k : ((slotR c).toLoadRect.shape.Idx → Elt F .f32) → Prog (TpuEff nD τ sig (Elt F) Λ₀ .tc) α} :
    slotPts c c q f
      ⊢ iprop((slotPts c c q f -∗ wp frame (wpE (defs₀ (F := F)) vars₀ (c : Thread nD τ) none) Set.univ
              (k ((gatM.access (slotR c) : View sig .tc _ _ _).read (Elt F) f)) Q)
          -∗ wp frame (wpE (defs₀ (F := F)) vars₀ (c : Thread nD τ) none) Set.univ (.op (.load gatM (slotR c).toLoadRect hl) k) Q) := by
  unfold slotPts
  exact wp_load_rect vars₀ (c : Thread nD τ) none Set.univ (m := gatM) (r := slotR c) (access_slot c).subset

/-- The store of the device's chunk to the own slot. -/
theorem store_own (c : Dev nD) (f : (cc0_scratch0 : Ref sig .tc).ty.Contents (Elt F)) (w : FVec F S1x2x256 .f32) (hw : w = chunk m c)
    {hx : (gatM.access (slotR c) : View sig .tc _ _ _).Stores Finset.univ} {hm : (Finset.univ : Finset (slotR c).shape.Idx) = Finset.univ ∨ ∀ a, (slotR c).stride a = 1} :
    slotPts c c fullShare f
      ⊢ iprop((slotPts c c fullShare (gath m) -∗ wp frame (wpE (defs₀ (F := F)) vars₀ (c : Thread nD τ) none) Set.univ (k ⟨⟩) Q)
          -∗ wp frame (wpE (defs₀ (F := F)) vars₀ (c : Thread nD τ) none) Set.univ (.op (.store gatM (slotR c) w Finset.univ hx hm) k) Q) := by
  subst hw
  rw [← slotPts_congr c c fullShare (store_slot m c f)]
  unfold slotPts
  exact wp_store vars₀ (c : Thread nD τ) none Set.univ (m := gatM) (r := slotR c) (access_slot c).subset

/-- A load of one line of the filled buffer. -/
theorem load_filled (c : Dev nD) (q : PosShare TreeShare) (s : Fin 4) (r : Fin 2)
    (inb : ∀ a, (![s.val, r.val, 0] : Fin 3 → Nat) a + S1x1x256.size a ≤ S4x2x256.size a)
    {hl : gatM.view.LoadsAt (Rect.unit (s := S4x2x256) ![s.val, r.val, 0] S1x1x256.size inb).toLoadRect}
    {k : Vec F S1x1x256 .f32 → Prog (TpuEff nD τ sig (Elt F) Λ₀ .tc) α} :
    bufPts c q (gath m)
      ⊢ iprop((bufPts c q (gath m) -∗ wp frame (wpE (defs₀ (F := F)) vars₀ (c : Thread nD τ) none) Set.univ (k (line m s r)) Q)
          -∗ wp frame (wpE (defs₀ (F := F)) vars₀ (c : Thread nD τ) none) Set.univ
              (.op (.load gatM (Rect.unit (s := S4x2x256) ![s.val, r.val, 0] S1x1x256.size inb).toLoadRect hl) k) Q) := by
  rw [← load_line m s r inb]
  unfold bufPts
  exact wp_load vars₀ (c : Thread nD τ) none Set.univ (m := gatM) (Finset.subset_univ _)

/-- A cell whose round is over closes: its counter is at zero. -/
theorem close_cell (ck : Dev nD × Cell) : iprop(records m K ∗ atPos EG (gcell ck) 1 ∅ 0) ⊢ iprop(|={Set.univ}=> semVal (gcell ck) 0) := by
  iintro ⟨#HR, Ha⟩
  iapply (Rounds.cell_close EG (plan m) (Set.mem_univ (K ck)) (fun h => h) (R := 1) (duties_later m (gcell ck)))
  isplitr; · iapply (records_inv m K ck); iexact HR
  iexact Ha

end Cert.KernelIdealGather

end
-- ==== Proof.KernelIdealBody.lean ====
/-
# One device's run of the argmax kernel

The body of the kernel on device `c`, from what the device holds at the start to what it holds at the end: its buffer filled
with the four chunks, its result the winner over them, and every semaphore of the protocol back at zero.
-/
module

public import proofs.«01_k».proof.Proof.KernelIdealSteps
public import proofs.«01_k».proof.Proof.Gen.KernelIdeal.Points

@[expose] public section

noncomputable section

namespace Cert.KernelIdealGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

variable (m : (ℓ : Loc nD τ sig) → Buf (Elt F) ℓ)

/-- The staging buffer of the argument, and that of the result. -/
def inPts (c : Dev nD) (f : (cc0_stg0_0 : Ref sig .tc).ty.Contents (Elt F)) : sProp 𝕄 := ((c : Thread nD τ).loc cc0_stg0_0) ↦{fullShare} f
def outPts (c : Dev nD) (f : (cc0_stg1_0 : Ref sig .tc).ty.Contents (Elt F)) : sProp 𝕄 := ((c : Thread nD τ).loc cc0_stg1_0) ↦{fullShare} f

section Staging
variable {α : Type} {Q : α → sProp (MT nD τ sig Unit (Elt F) ℕ UG ℕ)}

/-- The load of the device's rows. -/
theorem load_rows (c : Dev nD) (f : (cc0_stg0_0 : Ref sig .tc).ty.Contents (Elt F))
    {hl : inM.view.LoadsAt (Rect.unit (s := S256x256) ![0, 0] S256x256.size inb_S256x256_S256x256_0_0).toLoadRect}
    {k : Vec F S256x256 .bf16 → Prog (TpuEff nD τ sig (Elt F) Λ₀ .tc) α} :
    inPts c f
      ⊢ iprop((inPts c f -∗ wp frame (wpE (defs₀ (F := F)) vars₀ (c : Thread nD τ) none) Set.univ (k f) Q)
          -∗ wp frame (wpE (defs₀ (F := F)) vars₀ (c : Thread nD τ) none) Set.univ
              (.op (.load inM (Rect.unit (s := S256x256) ![0, 0] S256x256.size inb_S256x256_S256x256_0_0).toLoadRect hl) k) Q) := by
  have e : inM.view.readAt (Elt F) (Rect.unit (s := S256x256) ![0, 0] S256x256.size inb_S256x256_S256x256_0_0).toLoadRect f = f :=
    Memref.readAt_unit_zero (Elt F) cc0_stg0_0 (funext fun a => by fin_cases a <;> rfl) _ f
  rw [show k f = k (inM.view.readAt (Elt F) (Rect.unit (s := S256x256) ![0, 0] S256x256.size inb_S256x256_S256x256_0_0).toLoadRect f) from congrArg k e.symm]
  unfold inPts
  exact wp_load vars₀ (c : Thread nD τ) none Set.univ (m := inM) (Finset.subset_univ _)

/-- A load of a row of the result's block: its value is not used. -/
theorem load_out (c : Dev nD) (g : (cc0_stg1_0 : Ref sig .tc).ty.Contents (Elt F)) (r : Rect S2x256)
    {hl : outM.view.LoadsAt r.toLoadRect} {k : (r.toLoadRect.shape.Idx → Elt F .f32) → Prog (TpuEff nD τ sig (Elt F) Λ₀ .tc) α} :
    outPts c g
      ⊢ iprop((outPts c g -∗ wp frame (wpE (defs₀ (F := F)) vars₀ (c : Thread nD τ) none) Set.univ
            (k (outM.view.readAt (Elt F) r.toLoadRect g)) Q)
          -∗ wp frame (wpE (defs₀ (F := F)) vars₀ (c : Thread nD τ) none) Set.univ (.op (.load outM r.toLoadRect hl) k) Q) := by
  unfold outPts
  exact wp_load vars₀ (c : Thread nD τ) none Set.univ (m := outM) (Finset.subset_univ _)

/-- A store to a row of the result's block. -/
theorem store_out (c : Dev nD) (g : (cc0_stg1_0 : Ref sig .tc).ty.Contents (Elt F)) (r : Rect S2x256) (w : r.shape.Idx → Elt F .f32)
    {hx : (outM.access r : View sig .tc _ _ _).Stores Finset.univ} {hm : (Finset.univ : Finset r.shape.Idx) = Finset.univ ∨ ∀ a, r.stride a = 1}
    {k : PUnit → Prog (TpuEff nD τ sig (Elt F) Λ₀ .tc) α} :
    outPts c g
      ⊢ iprop((outPts c ((outM.access r : View sig .tc _ _ _).write (Elt F) g w Finset.univ)
            -∗ wp frame (wpE (defs₀ (F := F)) vars₀ (c : Thread nD τ) none) Set.univ (k ⟨⟩) Q)
          -∗ wp frame (wpE (defs₀ (F := F)) vars₀ (c : Thread nD τ) none) Set.univ (.op (.store outM r w Finset.univ hx hm) k) Q) := by
  unfold outPts
  exact wp_store vars₀ (c : Thread nD τ) none Set.univ (m := outM) (r := r) (Finset.subset_univ _)

end Staging

/-- What the body starts from, the records apart. -/
def before (c : Dev nD) : sProp 𝕄 :=
  iprop(places c ∗ errands c ∗ cred (tallyAt (gcell (c, .bar)) () 3)
    ∗ (bigSep Finset.univ fun j : Fin 3 => cred (tallyAt (gcell (c, .rcv j)) () N)) ∗ levAts lvSet lvOf
    ∗ (∃ f, bufPts c fullShare f) ∗ owing c (owedStart c) ∗ inPts c (rows m c) ∗ ∃ g, outPts c g)

/-- What it ends with. -/
def after (c : Dev nD) : sProp 𝕄 := iprop(atEnd m c ∗ owing c 0 ∗ inPts c (rows m c) ∗ outPts c (result m))

set_option maxHeartbeats 1600000 in
/-- The body, step by step. -/
theorem body_run (K : Dev nD × Cell → ℕ) (c : Dev nD) (Kt : PUnit → sProp 𝕄) :
    iprop(records m K ∗ before m c ∗ (after m c -∗ Kt ⟨⟩))
      ⊢ wp frame (wpE (defs₀ (F := F)) vars₀ (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold before places errands
  rw [bigSep_cells, bigSep_peers, bigSep_peers, bigSep_peers, bigSep_peers]
  iintro ⟨#HR, ⟨⟨HaB, HaS0, HaS1, HaS2, HaR0, HaR1, HaR2⟩, ⟨⟨HtB0, HtB1, HtB2⟩, ⟨HtS0, HtS1, HtS2⟩, ⟨HtR0, HtR1, HtR2⟩⟩, HcB, ⟨HcR0, HcR1, HcR2⟩, #Hl,
    ⟨%f0, Hbuf⟩, HO, Hin, ⟨%g0, Hout⟩⟩, Hk⟩
  ihave Hbuf := (Entails.of_eq (bufPts_slots c c fullShare f0)) $$ Hbuf
  icases Hbuf with ⟨Hs, Hs0, Hs1, Hs2⟩
  unfold owedStart
  -- a unit to each peer, with the slot it is to fill
  iapply (signal_peer m K c _ 0 (dev1_peer c) _ f0) $$ [HO HtB0 Hs0]
  · isplitr; · iexact HR
    isplitl [HO]; · iexact HO
    isplitl [HtB0]; · iexact HtB0
    iexact Hs0
  iintro HO
  iapply (signal_peer m K c _ 1 (dev2_peer c) _ f0) $$ [HO HtB1 Hs1]
  · isplitr; · iexact HR
    isplitl [HO]; · iexact HO
    isplitl [HtB1]; · iexact HtB1
    iexact Hs1
  iintro HO
  iapply (signal_peer m K c _ 2 (dev3_peer c) _ f0) $$ [HO HtB2 Hs2]
  · isplitr; · iexact HR
    isplitl [HO]; · iexact HO
    isplitl [HtB2]; · iexact HtB2
    iexact Hs2
  iintro HO
  -- the own chunk
  iapply (load_rows c (rows m c)) $$ Hin; iintro Hin
  iapply (load_own c fullShare f0) $$ Hs; iintro Hs
  iapply (store_own m c f0 _ rfl) $$ Hs; iintro Hs
  -- the peers' slots
  iapply (wait_peers m K c) $$ [HcB HO HaB]
  · isplitr; · iexact HR
    isplitl [HcB]; · iexact HcB
    isplitl [HO]; · iexact HO
    isplitr; · iexact Hl
    iexact HaB
  unfold barPay
  iintro ⟨HO, HaB, ⟨⟨%p2, Hp2⟩, -⟩, ⟨⟨%p1, Hp1⟩, -⟩, ⟨⟨%p0, Hp0⟩, -⟩⟩
  ihave Hs := (slotPts_lend c c (gath m)).1 $$ Hs
  icases Hs with ⟨Hs, Hl0, Hl1, Hl2⟩
  unfold owedCopies
  -- the three copies
  iapply (copy_peer m K c _ 1 (dev4_peer c) rfl rfl _ p1) $$ [Hl1 Hp1 HO HtS1 HtR1]
  · isplitr; · iexact HR
    isplitl [Hl1]; · iexact Hl1
    isplitl [Hp1]; · iexact Hp1
    isplitl [HO]; · iexact HO
    isplitl [HtS1]; · iexact HtS1
    iexact HtR1
  iintro ⟨HcS1, HO⟩
  iapply (copy_peer m K c _ 0 (dev5_peer c) rfl rfl _ p0) $$ [Hl0 Hp0 HO HtS0 HtR0]
  · isplitr; · iexact HR
    isplitl [Hl0]; · iexact Hl0
    isplitl [Hp0]; · iexact Hp0
    isplitl [HO]; · iexact HO
    isplitl [HtS0]; · iexact HtS0
    iexact HtR0
  iintro ⟨HcS0, HO⟩
  rw [← zero_add (tallyAt (gcell (peer c 2, .rcv 2)) () N)]
  iapply (copy_peer m K c _ 2 (dev6_peer c) rfl rfl 0 p2) $$ [Hl2 Hp2 HO HtS2 HtR2]
  · isplitr; · iexact HR
    isplitl [Hl2]; · iexact Hl2
    isplitl [Hp2]; · iexact Hp2
    isplitl [HO]; · iexact HO
    isplitl [HtS2]; · iexact HtS2
    iexact HtR2
  iintro ⟨HcS2, HO⟩
  -- the three landings
  iapply (wait_landing m K c 1 rfl) $$ [HcR1 HO HaR1]
  · isplitr; · iexact HR
    isplitl [HcR1]; · iexact HcR1
    isplitl [HO]; · iexact HO
    iexact HaR1
  iintro ⟨HO, HaR1, Hs1⟩
  iapply (wait_landing m K c 0 rfl) $$ [HcR0 HO HaR0]
  · isplitr; · iexact HR
    isplitl [HcR0]; · iexact HcR0
    isplitl [HO]; · iexact HO
    iexact HaR0
  iintro ⟨HO, HaR0, Hs2⟩
  iapply (wait_landing m K c 2 rfl) $$ [HcR2 HO HaR2]
  · isplitr; · iexact HR
    isplitl [HcR2]; · iexact HcR2
    isplitl [HO]; · iexact HO
    iexact HaR2
  iintro ⟨HO, HaR2, Hs0⟩
  rw [show (0 : Fin 3).rev = 2 from rfl, show (1 : Fin 3).rev = 1 from rfl, show (2 : Fin 3).rev = 0 from rfl]
  -- the whole filled buffer at the kept share
  ihave Hs0 := (slotPts_lend c (peer c 0) (gath m)).1 $$ Hs0
  ihave Hs1 := (slotPts_lend c (peer c 1) (gath m)).1 $$ Hs1
  ihave Hs2 := (slotPts_lend c (peer c 2) (gath m)).1 $$ Hs2
  icases Hs0 with ⟨Hs0, Hl0⟩
  icases Hs1 with ⟨Hs1, Hl1⟩
  icases Hs2 with ⟨Hs2, Hl2⟩
  ihave Hbuf := (Entails.of_eq (bufPts_slots c c kept (gath m)).symm) $$ [Hs Hs0 Hs1 Hs2]
  · isplitl [Hs]; · iexact Hs
    isplitl [Hs0]; · iexact Hs0
    isplitl [Hs1]; · iexact Hs1
    iexact Hs2
  -- the eight lines of it
  iapply (load_filled m c kept 0 0 inb_S4x2x256_S1x1x256_0_0_0) $$ Hbuf; iintro Hbuf
  iapply (load_filled m c kept 0 1 inb_S4x2x256_S1x1x256_0_1_0) $$ Hbuf; iintro Hbuf
  iapply (load_filled m c kept 1 0 inb_S4x2x256_S1x1x256_1_0_0) $$ Hbuf; iintro Hbuf
  iapply (load_filled m c kept 1 1 inb_S4x2x256_S1x1x256_1_1_0) $$ Hbuf; iintro Hbuf
  iapply (load_filled m c kept 2 0 inb_S4x2x256_S1x1x256_2_0_0) $$ Hbuf; iintro Hbuf
  iapply (load_filled m c kept 2 1 inb_S4x2x256_S1x1x256_2_1_0) $$ Hbuf; iintro Hbuf
  iapply (load_filled m c kept 3 0 inb_S4x2x256_S1x1x256_3_0_0) $$ Hbuf; iintro Hbuf
  iapply (load_filled m c kept 3 1 inb_S4x2x256_S1x1x256_3_1_0) $$ Hbuf; iintro Hbuf
  -- the result's two rows
  iapply (load_out c g0 outR0) $$ Hout; iintro Hout
  iapply (store_out c g0 outR0 (bestAll m)) $$ Hout; iintro Hout
  iapply (load_out c _ outR1) $$ Hout; iintro Hout
  iapply (store_out c _ outR1 (rowAll m)) $$ Hout; iintro Hout
  rw [store_result]
  -- the three sources
  iapply (wait_source m K c 1 rfl) $$ [HcS1 HO HaS1]
  · isplitr; · iexact HR
    isplitl [HcS1]; · iexact HcS1
    isplitl [HO]; · iexact HO
    iexact HaS1
  iintro ⟨HO, HaS1, Hn1⟩
  iapply (wait_source m K c 0 rfl) $$ [HcS0 HO HaS0]
  · isplitr; · iexact HR
    isplitl [HcS0]; · iexact HcS0
    isplitl [HO]; · iexact HO
    iexact HaS0
  iintro ⟨HO, HaS0, Hn0⟩
  iapply (wait_source m K c 2 rfl) $$ [HcS2 HO HaS2]
  · isplitr; · iexact HR
    isplitl [HcS2]; · iexact HcS2
    isplitl [HO]; · iexact HO
    iexact HaS2
  iintro ⟨HO, HaS2, Hn2⟩
  -- the buffer whole again
  ihave Hbuf := (Entails.of_eq (bufPts_slots c c kept (gath m))) $$ Hbuf
  icases Hbuf with ⟨Hs, Hs0, Hs1, Hs2⟩
  ihave Hs := (slotPts_lend c c (gath m)).2 $$ [Hs Hn0 Hn1 Hn2]
  · isplitl [Hs]; · iexact Hs
    isplitl [Hn0]; · iexact Hn0
    isplitl [Hn1]; · iexact Hn1
    iexact Hn2
  ihave Hs0 := (slotPts_lend c (peer c 0) (gath m)).2 $$ [Hs0 Hl0]
  · isplitl [Hs0]; · iexact Hs0
    iexact Hl0
  ihave Hs1 := (slotPts_lend c (peer c 1) (gath m)).2 $$ [Hs1 Hl1]
  · isplitl [Hs1]; · iexact Hs1
    iexact Hl1
  ihave Hs2 := (slotPts_lend c (peer c 2) (gath m)).2 $$ [Hs2 Hl2]
  · isplitl [Hs2]; · iexact Hs2
    iexact Hl2
  ihave Hbuf := (Entails.of_eq (bufPts_slots c c fullShare (gath m)).symm) $$ [Hs Hs0 Hs1 Hs2]
  · isplitl [Hs]; · iexact Hs
    isplitl [Hs0]; · iexact Hs0
    isplitl [Hs1]; · iexact Hs1
    iexact Hs2
  -- the seven cells close
  imod (close_cell m K (c, .bar)) $$ [HaB] with HzB
  · isplitr; · iexact HR
    iexact HaB
  imod (close_cell m K (c, .snd 0)) $$ [HaS0] with HzS0
  · isplitr; · iexact HR
    iexact HaS0
  imod (close_cell m K (c, .snd 1)) $$ [HaS1] with HzS1
  · isplitr; · iexact HR
    iexact HaS1
  imod (close_cell m K (c, .snd 2)) $$ [HaS2] with HzS2
  · isplitr; · iexact HR
    iexact HaS2
  imod (close_cell m K (c, .rcv 0)) $$ [HaR0] with HzR0
  · isplitr; · iexact HR
    iexact HaR0
  imod (close_cell m K (c, .rcv 1)) $$ [HaR1] with HzR1
  · isplitr; · iexact HR
    iexact HaR1
  imod (close_cell m K (c, .rcv 2)) $$ [HaR2] with HzR2
  · isplitr; · iexact HR
    iexact HaR2
  rw [wp_ret]; imodintro
  iapply Hk
  unfold after atEnd
  rw [bigSep_cells]
  isplitl [Hbuf HzB HzS0 HzS1 HzS2 HzR0 HzR1 HzR2]
  · isplitl [Hbuf]; · iexact Hbuf
    isplitl [HzB]; · iexact HzB
    isplitl [HzS0]; · iexact HzS0
    isplitl [HzS1]; · iexact HzS1
    isplitl [HzS2]; · iexact HzS2
    isplitl [HzR0]; · iexact HzR0
    isplitl [HzR1]; · iexact HzR1
    iexact HzR2
  isplitl [HO]; · iexact HO
  isplitl [Hin]; · iexact Hin
  iexact Hout

end Cert.KernelIdealGather

end
-- ==== Proof.KernelIdealTokens.lean ====
/-
# Setting the argmax kernel's protocol up

From the semaphores at zero and the ghost state of the launch: the invariants of the seven cells of every device, each
device's place at its own cells, the tokens of its errands, and the credit for what it is owed.
-/
module

public import proofs.«01_k».proof.Proof.KernelIdealProtocol

@[expose] public section

noncomputable section

namespace Cert.KernelIdealGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UG ℕ

variable (m : (ℓ : Loc nD τ sig) → Buf (Elt F) ℓ)

/-! ## Tokens -/

/-- The duties of a device's cells: three units on its barrier, and one duty on each of the others. -/
def dutyOf : Fin 3 × Fin 3 → Cell × Fin 3
  | (0, j) => (.bar, j)
  | (1, j) => (.snd j, 0)
  | (2, j) => (.rcv j, 0)

theorem dutyOf_inj : Function.Injective dutyOf := by decide

/-- Every device's. -/
def tokOf (x : Dev nD × (Fin 3 × Fin 3)) : GSem nD τ sig × ℕ × Fin 3 := (gcell (x.1, (dutyOf x.2).1), 0, (dutyOf x.2).2)

theorem tokOf_inj : Function.Injective tokOf := fun x y h => by
  have hc := gcell_inj (congrArg Prod.fst h)
  have hd : (dutyOf x.2).2 = (dutyOf y.2).2 := congrArg (fun z : GSem nD τ sig × ℕ × Fin 3 => z.2.2) h
  exact Prod.ext (Prod.mk.inj hc).1 (dutyOf_inj (Prod.ext (Prod.mk.inj hc).2 hd))

def allCells : Finset (GSem nD τ sig) := Finset.univ.map ⟨gcell, gcell_inj⟩
def allToks : Finset (GSem nD τ sig × ℕ × Fin 3) := Finset.univ.map ⟨tokOf, tokOf_inj⟩

/-- The ghost state of the launch: the pipeline's and the protocol's. -/
def u₀ : UG := (initOf (Pipeline.cells cfgs cellOf_inj) (Pipeline.launchToks cfgs cellOf_inj), initOf allCells allToks)

/-- The tokens of device `c`'s own cells. -/
def ownToks (c : Dev nD) : sProp 𝕄 :=
  iprop((bigSep Finset.univ fun j : Fin 3 => dutyTok EG (gcell (c, .bar)) 0 j)
    ∗ (bigSep Finset.univ fun j : Fin 3 => dutyTok EG (gcell (c, .snd j)) 0 0)
    ∗ (bigSep Finset.univ fun j : Fin 3 => dutyTok EG (gcell (c, .rcv j)) 0 0))

/-- What the launch deals device `c`. -/
def dealt (c : Dev nD) : sProp 𝕄 :=
  iprop((bigSep Finset.univ fun k : Cell => roundState EG (plan m) (gcell (c, k)) 0)
    ∗ places c ∗ (bigSep Finset.univ fun k : Cell => reached EG (gcell (c, k)) 0) ∗ ownToks c)

omit [FloatOps F] in
theorem over_cells (Φ : GSem nD τ sig → sProp 𝕄) :
    bigSep allCells Φ = bigSep Finset.univ fun c : Dev nD => bigSep Finset.univ fun k : Cell => Φ (gcell (c, k)) := by
  unfold allCells; rw [bigSep_map, bigSep_univ_prod]; rfl

omit [FloatOps F] in
theorem over_toks :
    bigSep allToks (fun x => (dutyTok EG x.1 x.2.1 x.2.2 : sProp 𝕄)) = bigSep Finset.univ fun c : Dev nD => ownToks c := by
  unfold allToks; rw [bigSep_map, bigSep_univ_prod]
  exact bigSep_congr fun c _ => by unfold ownToks; rw [bigSep_univ_prod, bigSep_peers]; rfl

/-- The protocol's ghost state, dealt. -/
theorem deal : BI.own (EG (initOf allCells allToks)) ⊢ (|==> bigSep Finset.univ (dealt m) : sProp 𝕄) := by
  iintro HX
  imod (Rounds.fund EG (plan m) allCells allToks) $$ HX with ⟨Hst, Hr, Hat, Htok⟩
  imodintro
  ihave Hst := (Entails.of_eq (over_cells fun g => roundState EG (plan m) g 0)) $$ Hst
  ihave Hat := (Entails.of_eq (over_cells fun g => atPos EG g 0 ∅ 0)) $$ Hat
  ihave Hr := (Entails.of_eq (over_cells fun g => reached EG g 0)) $$ Hr
  ihave Htok := (Entails.of_eq over_toks) $$ Htok
  unfold dealt places; simp only [bigSep_sep']
  isplitl [Hst]; · iexact Hst
  isplitl [Hat]; · iexact Hat
  isplitl [Hr]; · iexact Hr
  iexact Htok

/-! ## The semaphores -/

/-- The six semaphores of the kernel's own. -/
abbrev osem : Fin 6 → SemLoc sig
  | 0 => semOf (.snd 0) | 1 => semOf (.snd 1) | 2 => semOf (.snd 2) | 3 => semOf (.rcv 0) | 4 => semOf (.rcv 1) | 5 => semOf (.rcv 2)

omit [FloatOps F] in
theorem own_sems (c : Dev nD) : (Pipeline.ownSems0 (Ix := Unit) (Name := ℕ) (U := UG) (Lvl := ℕ) (Val := Elt F) (τ := τ) osem c : sProp 𝕄)
    = iprop(semVal (gcell (c, .snd 0)) 0 ∗ semVal (gcell (c, .snd 1)) 0 ∗ semVal (gcell (c, .snd 2)) 0
        ∗ semVal (gcell (c, .rcv 0)) 0 ∗ semVal (gcell (c, .rcv 1)) 0 ∗ semVal (gcell (c, .rcv 2)) 0) := by
  rw [Pipeline.ownSems0_eq_of_list c osem [0, 1, 2, 3, 4, 5] (by decide) (by decide)]; rfl
omit [FloatOps F] in
theorem bar_sem (c : Dev nD) : (unscopedSems0 c : sProp 𝕄) = semVal (gcell (c, .bar)) 0 := by
  unfold unscopedSems0; rw [bigSep_eq_bigSepL_of_eq [semOf .bar] (by decide) (by decide)]; rfl

omit [FloatOps F] in
/-- The seven counters of a device are its own six and the barrier's. -/
theorem all_sems (c : Dev nD) : (bigSep Finset.univ fun k : Cell => semVal (gcell (c, k)) 0 : sProp 𝕄)
    = iprop(unscopedSems0 c ∗ Pipeline.ownSems0 (Ix := Unit) (Name := ℕ) (U := UG) (Lvl := ℕ) (Val := Elt F) (τ := τ) osem c) := by
  rw [bigSep_cells, own_sems, bar_sem]

/-- A device's cells get their invariants. -/
theorem open_cells (c : Dev nD) :
    iprop(Pipeline.ownSems0 (Ix := Unit) (Name := ℕ) (U := UG) (Lvl := ℕ) (Val := Elt F) (τ := τ) osem c ∗ unscopedSems0 c ∗ dealt m c)
      ⊢ |={Set.univ}=> iprop((bigSep Finset.univ fun k : Cell => iprop(∃ κ : ℕ, cellInv EG (plan m) κ (gcell (c, k))))
          ∗ places c ∗ (bigSep Finset.univ fun k : Cell => reached EG (gcell (c, k)) 0) ∗ ownToks c) := by
  unfold dealt
  iintro ⟨Hos, Hus, Hst, Hrest⟩
  ihave Hv := (Entails.of_eq (all_sems (F := F) c).symm) $$ [Hos Hus]
  · isplitl [Hus]; · iexact Hus
    iexact Hos
  imod (show iprop((bigSep Finset.univ fun k : Cell => semVal (gcell (c, k)) 0) ∗ bigSep Finset.univ fun k : Cell => roundState EG (plan m) (gcell (c, k)) 0)
      ⊢ (|={Set.univ}=> bigSep Finset.univ fun k : Cell => iprop(∃ κ : ℕ, cellInv EG (plan m) κ (gcell (c, k))) : sProp 𝕄) from by
        rw [← bigSep_sep']
        exact (bigSep_mono fun k _ => (Rounds.body_intro EG (plan m) (gcell (c, k))).trans inv_alloc).trans (bigSep_fupd _ _)) $$ [Hv Hst] with Hinv
  · isplitl [Hv]; · iexact Hv
    iexact Hst
  imodintro
  isplitl [Hinv]; · iexact Hinv
  iexact Hrest

/-! ## The tokens to those that do the errands -/

omit [FloatOps F] in
/-- A family over devices and peers' numbers, each member given to the device whose peer it concerns. -/
theorem bigSep_turn (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (peer c j) j := by
  rw [BI.bigSep_univ_comm, BI.bigSep_univ_comm fun (c : Dev nD) (j : Fin 3) => Φ (peer c j) j]
  exact bigSep_congr fun j _ => bigSep_univ_equiv (turn j) fun c => Φ c j

omit [FloatOps F] in
theorem hand_out : (bigSep Finset.univ fun c : Dev nD => (ownToks c : sProp 𝕄)) = bigSep Finset.univ fun c : Dev nD => errands c := by
  unfold ownToks errands
  rw [bigSep_sep', bigSep_sep', bigSep_sep', bigSep_sep', bigSep_turn fun c j => dutyTok EG (gcell (c, .bar)) 0 j,
    bigSep_turn fun c j => dutyTok EG (gcell (c, .rcv j)) 0 0]

theorem ghost_at (K : Dev nD × Cell → ℕ) (c : Dev nD) : iprop(records m K ∗ (places c ∗ errands c)) ⊢ ghost m c := by
  unfold ghost
  iintro ⟨#HR, Hp, He⟩
  iexists K
  isplitr; · iexact HR
  isplitl [Hp]; · iexact Hp
  iexact He

/-- All devices' ghost states, once every cell has its invariant. -/
theorem gather_up :
    (bigSep Finset.univ fun c : Dev nD => iprop((bigSep Finset.univ fun k : Cell => iprop(∃ κ : ℕ, cellInv EG (plan m) κ (gcell (c, k))))
        ∗ places c ∗ (bigSep Finset.univ fun k : Cell => reached EG (gcell (c, k)) 0) ∗ ownToks c) : sProp 𝕄)
      ⊢ bigSep Finset.univ (ghost m) := by
  rw [bigSep_sep', bigSep_sep', bigSep_sep', hand_out,
    ← bigSep_univ_prod (fun ck : Dev nD × Cell => iprop(∃ κ : ℕ, cellInv EG (plan m) κ (gcell ck))),
    ← bigSep_univ_prod (fun ck : Dev nD × Cell => (reached EG (gcell ck) 0 : sProp 𝕄))]
  iintro ⟨HI, Hp, #HR, He⟩
  ihave HK := (BI.bigSep_exists_pi Finset.univ (fun (ck : Dev nD × Cell) (κ : ℕ) => (cellInv EG (plan m) κ (gcell ck) : sProp 𝕄))) $$ HI
  icases HK with ⟨%K, #HI⟩
  iapply (show iprop(records m K ∗ bigSep Finset.univ fun c : Dev nD => iprop(places c ∗ errands c)) ⊢ bigSep Finset.univ (ghost m) from
    (sep_mono_left (BI.bigSep_of_persistent Finset.univ (records m K))).trans (by rw [← bigSep_sep']; exact bigSep_mono fun c _ => ghost_at m K c))
  isplitr
  · unfold records
    isplitr; · iexact HI
    iexact HR
  rw [bigSep_sep']
  isplitl [Hp]; · iexact Hp
  iexact He

/-- From all semaphores at zero and what was dealt, every device's ghost state. -/
theorem set_up : (bigSep Finset.univ fun c : Dev nD => iprop(Pipeline.ownSems0 (Ix := Unit) (Name := ℕ) (U := UG) (Lvl := ℕ) (Val := Elt F) (τ := τ) osem c
      ∗ unscopedSems0 c ∗ dealt m c) : sProp 𝕄) ⊢ |={Set.univ}=> bigSep Finset.univ (ghost m) :=
  ((bigSep_mono fun c _ => open_cells m c).trans (bigSep_fupd _ _)).trans (BI.fupd_mono (gather_up m))

/-! ## Credit for what is owed -/

theorem sum_peer (c : Dev nD) (j : Fin 3) (n : ℕ) : (∑ d : Dev nD, if c = peer d j then n else 0) = n := by
  rw [Finset.sum_eq_single (peer c j.rev), if_pos (peer_of_rev c j).symm]
  · exact fun d _ h => if_neg fun e => h (by rw [e, peer_rev])
  · exact fun h => absurd (Finset.mem_univ _) h

/-- One tally, read at a cell. -/
theorem tally_cell (a b : Dev nD × Cell) (n : ℕ) : (tallyAt (gcell a) () n : CellTallies nD τ sig Unit) (gcell b) () = if b = a then n else 0 := by
  rw [tallyAt_apply]
  exact if_congr ⟨fun h => gcell_inj h.1, fun h => ⟨congrArg gcell h, rfl⟩⟩ rfl rfl

theorem owed_at (d : Dev nD) (b : Dev nD × Cell) : owedStart d (gcell b) ()
    = (if b = (peer d 2, .rcv 2) then N else 0) + (if b = (peer d 0, .rcv 0) then N else 0) + (if b = (peer d 1, .rcv 1) then N else 0)
      + (if b = (peer d 2, .bar) then 1 else 0) + (if b = (peer d 1, .bar) then 1 else 0) + (if b = (peer d 0, .bar) then 1 else 0) := by
  unfold owedStart owedCopies
  simp only [Pi.add_apply, Finsupp.add_apply, tally_cell]

theorem owed_bar (c : Dev nD) : (∑ d : Dev nD, owedStart d (gcell (c, .bar)) ()) = 3 := by
  simp only [owed_at, Prod.mk.injEq, reduceCtorEq, and_false, and_true, if_false, Nat.zero_add, Finset.sum_add_distrib, sum_peer]

theorem owed_rcv (c : Dev nD) (j : Fin 3) : (∑ d : Dev nD, owedStart d (gcell (c, .rcv j)) ()) = N := by
  fin_cases j <;>
    simp [owed_at, Prod.mk.injEq, Cell.rcv.injEq, Finset.sum_add_distrib, sum_peer]

/-- What the launch credits a cell with is what all devices together owe it. -/
theorem credit_at (ck : Dev nD × Cell) (n : ℕ) (h : (∑ d : Dev nD, owedStart d (gcell ck) ()) = n) :
    tallyOn (gcell ck) (launchCredit (Pipeline.owing owedStart) 0 (gcell ck)) = (tallyAt (gcell ck) () n : CellTallies nD τ sig Unit) := by
  unfold tallyAt; refine congrArg _ (Finsupp.ext fun u => ?_); cases u
  rw [Pipeline.launchCredit_owing, Finsupp.single_eq_same, h]

omit [FloatOps F] in
theorem drop_sends (A : Cell → sProp 𝕄) :
    iprop(A .bar ∗ A (.snd 0) ∗ A (.snd 1) ∗ A (.snd 2) ∗ A (.rcv 0) ∗ A (.rcv 1) ∗ A (.rcv 2)) ⊢ iprop(A .bar ∗ A (.rcv 0) ∗ A (.rcv 1) ∗ A (.rcv 2)) := by
  iintro ⟨HB, -, -, -, HR⟩
  isplitl [HB]; · iexact HB
  iexact HR

omit [FloatOps F] in
theorem credits (c : Dev nD) : (Pipeline.launchCred owedStart c : sProp 𝕄)
    ⊢ iprop(cred (tallyAt (gcell (c, .bar)) () 3) ∗ bigSep Finset.univ fun j : Fin 3 => cred (tallyAt (gcell (c, .rcv j)) () N)) := by
  unfold Pipeline.launchCred
  refine (bigSep_subset (Finset.subset_univ (Finset.univ.map ⟨semOf, semOf_inj⟩))).trans ?_
  rw [bigSep_map, bigSep_cells, bigSep_peers, ← credit_at _ _ (owed_bar c), ← credit_at _ _ (owed_rcv c 0), ← credit_at _ _ (owed_rcv c 1), ← credit_at _ _ (owed_rcv c 2)]
  exact drop_sends fun k => cred (tallyOn (gcell (c, k)) (launchCredit (Pipeline.owing owedStart) 0 (gcell (c, k))))

end Cert.KernelIdealGather

end
-- ==== Proof.KernelIdealLaunch.lean ====
/-
# The argmax kernel's run

The program on four devices, from any memory with the semaphores at zero: it ends on every device, with the result array
holding the winner over the four chunks, the argument as it was, and every semaphore at zero again.
-/
module

public import proofs.«01_k».proof.Proof.KernelIdealBody
public import proofs.«01_k».proof.Proof.KernelIdealTokens
public import Idealize.ShloMosaic.Lib.Pipeline.Regions
public import Idealize.ShloMosaic.Lib.Pipeline.CollectiveSegs

@[expose] public section

noncomputable section

namespace Cert.KernelIdealGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UG ℕ

variable (m : (ℓ : Loc nD τ sig) → Buf (Elt F) ℓ)

/-! ## What the pipeline is told -/

/-- The arrays as they are, the argument's block staged in and the result's staged out, what the device holds before and
    after the one point, and what it owes. -/
def dats (_ : Fin 1) (c : Dev nD) : Dat τ (Elt F) Unit ℕ UG ℕ cfg0 c where
  A w := m ((cfg0.win w).arr.view.loc (c : Thread nD τ))
  after w _ := match w with
    | ⟨0, _⟩ => rows m c
    | ⟨1, _⟩ => result m
  Φ t := match t with
    | ⟨0, _⟩ => iprop(atStart m c ∗ ∃ f, bufPts c fullShare f)
    | ⟨_ + 1, _⟩ => atEnd m c
  q _ := fullShare
  owed t := match t with
    | ⟨0, _⟩ => owedStart c
    | ⟨_ + 1, _⟩ => 0

omit [FloatOps F] in
theorem owns_staging (c : Dev nD) (b : Ref sig .tc) (X : b.ty.Contents (Elt F)) :
    (owns (Ix := Unit) (Name := ℕ) (U := UG) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- Before and after the point, as the pipeline states them. -/
def pointPre (c : Dev nD) : sProp 𝕄 :=
  iprop((atStart m c ∗ ∃ f, bufPts c fullShare f) ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
def pointPost (c : Dev nD) : sProp 𝕄 :=
  iprop(atEnd m c ∗ (dats m 0 c).owesAt () t0_0.succ ∗ staged c cc0_stg0_0 (rows m c) ∗ staged c cc0_stg1_0 (result m))

set_option maxRecDepth 4000 in
/-- The body does what the pipeline needs of it. -/
theorem body_point (c : Dev nD) : pointPre m c ⊢ wp frame (wpE (defs₀ (F := F)) vars₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => pointPost m c) := by
  unfold pointPre atStart ghost
  iintro ⟨⟨⟨⟨%K, #HR, Hp, He⟩, HcB, HcR, #Hl⟩, Hbuf⟩, Ho, ⟨%d0, %f, %hf, Hin⟩, ⟨%d1, %g, %hg, Hout⟩⟩
  have hx : f = rows m c := by rw [hf]; unfold Dat.before; rw [if_pos (fetch0_0 t0_0)]; rfl
  subst hx
  unfold Dat.owesAt Pipeline.owesWithin
  icases Ho with ⟨%W, %hW, HO⟩
  rw [show (dats m 0 c).owed t0_0.castSucc = owedStart c from rfl]
  iapply (body_run m K c fun _ => pointPost m c)
  isplitr; · iexact HR
  isplitl
  · unfold before owing inPts outPts
    isplitl [Hp]; · iexact Hp
    isplitl [He]; · iexact He
    isplitl [HcB]; · iexact HcB
    isplitl [HcR]; · iexact HcR
    isplitr; · iexact Hl
    isplitl [Hbuf]; · iexact Hbuf
    isplitl [HO]; · iexists W; iexact HO
    isplitl [Hin]; · iexact Hin
    iexists g; iexact Hout
  · unfold after owing inPts outPts pointPost Dat.owesAt Pipeline.owesWithin
    rw [show (dats m 0 c).owed t0_0.succ = 0 from rfl]
    iintro ⟨HE, ⟨%W', HO⟩, Hin, Hout⟩
    isplitl [HE]; · iexact HE
    isplitl [HO]
    · iexists W'
      isplitr; · ipureintro; exact fun _ _ => Or.inl trivial
      iexact HO
    isplitl [Hin]
    · iexists _; isplitr; · (ipureintro; rfl)
      iexact Hin
    iexists _; isplitr; · (ipureintro; rfl)
    iexact Hout

theorem body_obligation (c : Dev nD) : BodyObligation (dats (F := F) m 0 c) (defs₀ (F := F)) vars₀ () Set.univ := fun t => by
  rw [fin_N0 t, bigSep_W0, bigSep_W0]
  simp only [owns_staging]
  exact body_point m c

/-! ## The launch -/

theorem own_facts : Pipeline.OwnSemFacts cfg0.spec osem := by decide

theorem share_full (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts lvSet lvOf
        ∗ Pipeline.launchCred owedStart c ∗ prngReg c (ρ c) ∗ ghost m c)
      ⊢ |={Set.univ}=> iprop(atStart m c ∗ emp) := by
  iintro ⟨-, Hl, Hcr, -, HG⟩
  ihave Hc := (credits (F := F) c) $$ Hcr
  icases Hc with ⟨HB, HR⟩
  imodintro
  unfold atStart
  isplitl
  · isplitl [HG]; · iexact HG
    isplitl [HB]; · iexact HB
    isplitl [HR]; · iexact HR
    iexact Hl
  · iempintro

theorem enter (c : Dev nD) :
    iprop(atStart m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(atStart m c ∗ ∃ f, bufPts c fullShare f) from rfl, scopedRest0_eq]
  unfold bufPts
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = atEnd m c from rfl, scopedRest0_eq]
  unfold atEnd bufPts
  rw [all_sems]
  iintro ⟨Hr, HB, HO⟩
  isplitl [HB]; · iexact HB
  isplitl [HO]; · iexact HO
  iexists (gath m); iexact Hr

theorem stage_waits (c : Dev nD) : (levAts lvSet lvOf : sProp 𝕄) ⊢ Pipeline.cellsWaits cfgs (dats m) () 0 c :=
  Pipeline.cellsWaits_intro cfgs (dats m) () 0 c fun w s t =>
    mayWait_other c _ (by fin_cases w <;> fin_cases s <;> decide) _ (by
      rcases t with ⟨_ | _, ht⟩
      · exact Or.inl rfl
      · exact Or.inr rfl)

/-- What array `w` of device `c` holds after the run. -/
def final (c : Dev nD) (w : Fin cfg0.W) : Buf (Elt F) ((cfg0.win w).arr.view.loc (c : Thread nD τ)) := (dats m 0 c).arrAt w cfg0.N

set_option maxRecDepth 8000 in
/-- The run: every execution ends, with the arrays at their final contents and every semaphore at zero. -/
theorem run_main (ρ : Dev nD → PrngReg) : θ_run defs (onTc (τ := τ) (main (F := F))) ⟨m, fun _ => 0, ρ⟩ (fun r =>
    (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ vars₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := owedStart) (howed₀ := fun _ => rfl) (howedN := fun _ => rfl)
    (L := lvSet) (lv := lvOf) (hL := lvSet_other) (hwaits := stage_waits m)
    (G := dealt m) (G' := ghost m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := atStart m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was. -/
theorem final_arg (c : Dev nD) : final m c (0 : Fin 2) = m ((c : Thread nD τ).loc main_arg0) := (dats (F := F) m 0 c).arrAt_in (0 : Fin 2) rfl _

end Cert.KernelIdealGather

end
-- ==== Proof.Winner.lean ====
/-
# The first largest entry of a column

A column is a function from row numbers to extended reals. This module says what it is for an entry to be the first
largest one of a stretch of rows, that there is only one such, that the winner of two stretches in a row is found by one
strict comparison, and how a fold of maxima, of minima or of argmax pairs finds it.
-/
module

public import Mathlib.Data.EReal.Basic
public import Mathlib.Data.List.FinRange
public import Mathlib.Order.Lattice

@[expose] public section

namespace Cert.Columns

/-- `v` is the largest entry of rows `a` up to `b`, and row `k` is the first that holds it. -/
structure First (g : ℕ → EReal) (a b : ℕ) (v : EReal) (k : ℕ) : Prop where
  lower : a ≤ k
  upper : k < b
  holds : g k = v
  before : ∀ i, a ≤ i → i < k → g i < v
  largest : ∀ i, a ≤ i → i < b → g i ≤ v

variable {g : ℕ → EReal} {a b c : ℕ} {v w : EReal} {k l : ℕ}

/-- There is one first largest entry. -/
theorem First.unique (h : First g a b v k) (h' : First g a b w l) : v = w ∧ k = l := by
  have hv : v = w := le_antisymm (h.holds ▸ h'.largest k h.lower h.upper) (h'.holds ▸ h.largest l h'.lower h'.upper)
  subst hv
  refine ⟨rfl, ?_⟩
  rcases Nat.lt_trichotomy k l with hl | hl | hl
  · exact absurd h.holds (h'.before k h.lower hl).ne
  · exact hl
  · exact absurd h'.holds (h.before l h'.lower hl).ne

/-- Of two neighbouring stretches the second wins exactly if its entry is strictly larger. -/
theorem First.merge (h : First g a b v k) (h' : First g b c w l) :
    First g a c (if v < w then w else v) (if v < w then l else k) := by
  have hk := h.upper
  have hl := h'.lower
  have hc := h'.upper
  by_cases hw : v < w
  · rw [if_pos hw, if_pos hw]
    refine ⟨h.lower.trans (hk.le.trans hl), hc, h'.holds, fun i hi hil => ?_, fun i hi hic => ?_⟩
    · rcases Nat.lt_or_ge i b with hb | hb
      · exact (h.largest i hi hb).trans_lt hw
      · exact h'.before i hb hil
    · rcases Nat.lt_or_ge i b with hb | hb
      · exact (h.largest i hi hb).trans hw.le
      · exact h'.largest i hb hic
  · rw [if_neg hw, if_neg hw]
    refine ⟨h.lower, hk.trans (hl.trans_lt hc), h.holds, h.before, fun i hi hic => ?_⟩
    rcases Nat.lt_or_ge i b with hb | hb
    · exact h.largest i hi hb
    · exact (h'.largest i hb hic).trans (not_lt.mp hw)

/-- Every stretch with a row in it has a first largest entry. -/
theorem First.exists (g : ℕ → EReal) (a n : ℕ) : ∃ v k, First g a (a + (n + 1)) v k := by
  induction n with
  | zero => exact ⟨g a, a, le_rfl, by omega, rfl, fun i _ _ => by omega, fun i hi hi' => by rw [show i = a by omega]⟩
  | succ n ih =>
    obtain ⟨v, k, h⟩ := ih
    have one : First g (a + (n + 1)) (a + (n + 1 + 1)) (g (a + (n + 1))) (a + (n + 1)) :=
      ⟨le_rfl, by omega, rfl, fun i _ _ => by omega, fun i hi hi' => by rw [show i = a + (n + 1) by omega]⟩
    exact ⟨_, _, h.merge one⟩

/-! ## Folds -/

section Folds
variable {ι α β : Type} [LinearOrder α]

/-- A fold of maxima is below what its start and all its terms are below. -/
theorem foldl_max_le (f : ι → α) (l : List ι) (s t : α) :
    l.foldl (fun r i => max r (f i)) s ≤ t ↔ s ≤ t ∧ ∀ i ∈ l, f i ≤ t := by
  induction l generalizing s with
  | nil => simp
  | cons i l ih => rw [List.foldl_cons, ih]; simp only [max_le_iff, List.forall_mem_cons, and_assoc]

/-- A fold of minima is above what its start and all its terms are above. -/
theorem le_foldl_min (f : ι → α) (l : List ι) (s t : α) :
    t ≤ l.foldl (fun r i => min r (f i)) s ↔ t ≤ s ∧ ∀ i ∈ l, t ≤ f i := by
  induction l generalizing s with
  | nil => simp
  | cons i l ih => rw [List.foldl_cons, ih]; simp only [le_min_iff, List.forall_mem_cons, and_assoc]

omit [LinearOrder α] in
/-- What holds at the start, and passes from each row to the next, holds at the end of a fold down the rows. -/
theorem foldl_rows (n : ℕ) (step : β → Fin n → β) (P : ℕ → β → Prop) (s : β) (start : P 0 s)
    (next : ∀ (i : Fin n) (r : β), P i.val r → P (i.val + 1) (step r i)) : P n ((List.finRange n).foldl step s) := by
  induction n with
  | zero => simpa using start
  | succ n ih =>
    rw [List.finRange_succ_last, List.foldl_append, List.foldl_map]
    exact next (Fin.last n) _ (ih (fun r i => step r i.castSucc) fun i r h => next i.castSucc r h)

end Folds

/-- The fold of maxima down the rows of a stretch, from minus infinity, is its largest entry. -/
theorem First.foldl_max {n : ℕ} (h : First g a (a + n) v k) :
    (List.finRange n).foldl (fun r i => max r (g (a + i.val))) ⊥ = v := by
  apply le_antisymm
  · exact (foldl_max_le _ _ _ _).mpr ⟨bot_le, fun i _ => h.largest _ (by omega) (by omega)⟩
  · have hk := h.upper
    have ha := h.lower
    have := ((foldl_max_le (fun i : Fin n => g (a + i.val)) (List.finRange n) ⊥ _).mp le_rfl).2 ⟨k - a, by omega⟩ (List.mem_finRange _)
    simp only [show a + (k - a) = k by omega, h.holds] at this
    exact this

/-- The fold of minima over the numbers of the rows that hold the largest entry, with a number too large for a row in
    place of the others, is the number of the first one. -/
theorem First.foldl_min {n : ℕ} (h : First g a (a + n) v k) (big : EReal) (hb : ((n : ℝ) : EReal) ≤ big) :
    (List.finRange n).foldl (fun r i => min r (if g (a + i.val) = v then ((i.val : ℝ) : EReal) else big)) ⊤ = (((k - a : ℕ) : ℝ) : EReal) := by
  have hk := h.upper
  have ha := h.lower
  apply le_antisymm
  · have := ((le_foldl_min (fun i : Fin n => if g (a + i.val) = v then ((i.val : ℝ) : EReal) else big) (List.finRange n) ⊤ _).mp le_rfl).2
      ⟨k - a, by omega⟩ (List.mem_finRange _)
    simp only [show a + (k - a) = k by omega, h.holds, if_true] at this
    exact this
  · refine (le_foldl_min _ _ _ _).mpr ⟨le_top, fun i _ => ?_⟩
    split
    · rename_i hi
      rw [EReal.coe_le_coe_iff, Nat.cast_le]
      by_contra hlt
      exact (h.before (a + i.val) (by omega) (by omega)).ne hi
    · refine le_trans ?_ hb
      rw [EReal.coe_le_coe_iff, Nat.cast_le]; omega

/-- The word of a row number, read as a signed integer, is the number. -/
theorem row_word (n : ℕ) (h : n < 1024) : (BitVec.ofNat 32 n).toInt = (n : ℤ) := by
  have e : (BitVec.ofNat 32 n).toNat = n := by rw [BitVec.toNat_ofNat]; omega
  rw [BitVec.toInt_eq_toNat_of_lt (by rw [e]; omega), e]

end Cert.Columns
-- ==== Proof.KernelIdealChunk.lean ====
/-
# What a chunk holds over the extended reals

The chunk of a device, at a column: first the largest of the device's entries in that column, then the number, in the whole
matrix, of the first row that holds it.
-/
module

public import proofs.«01_k».proof.Proof.Gen.KernelIdeal.Skeleton
public import proofs.«01_k».proof.Proof.KernelIdealSlots
public import proofs.«01_k».proof.Proof.Winner
public import Idealize.ShloMosaic.PureOps.Ideal
public import Idealize.ShloMosaic.PureOps.Reduce
public import Idealize.ShloMosaic.Lib.Pipeline.Value
public import Idealize.ShloMosaic.Lib.ValueIdxCore

@[expose] public section

noncomputable section

namespace Cert.KernelIdealGather

open Cert.KernelIdeal Cert.KernelIdeal.Gen Cert.Columns
open Idealize.ShloMosaic
open Idealize.ShloMosaic.ValueIdx (ix1 ix2 ix3)

/-! ## The constants -/

theorem bits_minus_infinity : Ideal.ofBits .bf16 0xFF80#16 = ⊥ := by simp [Ideal.ofBits, Ideal.ieee]
theorem bits_infinity : Ideal.ofBits .f32 0x7F800000#32 = ⊤ := by simp [Ideal.ofBits, Ideal.ieee]
theorem bits_256 : Ideal.ofBits .f32 0x43800000#32 = ((256 : ℝ) : EReal) := by
  simp [Ideal.ofBits, Ideal.ieee, -EReal.coe_mul]; norm_num
/-- The number put in place of a row that does not hold the largest entry is more than any row's. -/
theorem bits_sentinel : (((256 : ℕ) : ℝ) : EReal) ≤ Ideal.ofBits .f32 0x4E6E6B28#32 := by
  have : Ideal.ofBits .f32 0x4E6E6B28#32 = ((1000000000 : ℝ) : EReal) := by
    simp [Ideal.ofBits, Ideal.ieee, -EReal.coe_mul]; norm_num
  rw [this, EReal.coe_le_coe_iff]; norm_num

/-! ## The two reductions down a column -/

/-- The index of a reduced column, from its number. -/
theorem pair_col (r j : Fin 256) :
    (Shape.pair r (reduces_S256x256_S256.col (ix1 j : S256.Idx)) : S256x256.Idx) = ix2 r j := by
  funext a; apply Fin.ext
  match a with
  | ⟨0, _⟩ => rfl
  | ⟨1, _⟩ => rfl

variable {g : ℕ → EReal} {a k : ℕ} {v : EReal} {j : Fin 256}

/-- The maximum down a column is its largest entry. -/
theorem max_column (x : FVec Ideal S256x256 .bf16) (hx : ∀ r : Fin 256, x (ix2 r j) = g (a + r.val)) (h : First g a (a + 256) v k)
    (hφ : FKind.Formats .bf16) (hacc : 0xFF80#16 = FKind.neutral .maximumf .bf16 hφ) :
    multiReduction .maximumf [0] S256 x 0xFF80#16 reduces_S256x256_S256 hφ hacc (ix1 j) = v := by
  show reduceFold reduces_S256x256_S256 max (Ideal.ofBits .bf16 0xFF80#16) x (ix1 j) = v
  rw [reduceFold_rows, bits_minus_infinity]
  refine Eq.trans (congrArg (fun f => (List.finRange 256).foldl f (⊥ : EReal)) (funext fun r => funext fun (i : Fin 256) => ?_)) h.foldl_max
  exact congrArg (max r) ((congrArg x (pair_col i j)).trans (hx i))

/-- The minimum down a column of the numbers of the rows that hold the largest entry is the first one's. -/
theorem min_column (y : FVec Ideal S256x256 .f32)
    (hy : ∀ r : Fin 256, y (ix2 r j) = if g (a + r.val) = v then ((r.val : ℝ) : EReal) else Ideal.ofBits .f32 0x4E6E6B28#32)
    (h : First g a (a + 256) v k) (hφ : FKind.Formats .f32) (hacc : 0x7F800000#32 = FKind.neutral .minimumf .f32 hφ) :
    multiReduction .minimumf [0] S256 y 0x7F800000#32 reduces_S256x256_S256 hφ hacc (ix1 j) = (((k - a : ℕ) : ℝ) : EReal) := by
  show reduceFold reduces_S256x256_S256 min (Ideal.ofBits .f32 0x7F800000#32) y (ix1 j) = _
  rw [reduceFold_rows, bits_infinity]
  refine Eq.trans (congrArg (fun f => (List.finRange 256).foldl f (⊤ : EReal)) (funext fun r => funext fun (i : Fin 256) => ?_))
    (h.foldl_min _ bits_sentinel)
  exact congrArg (min r) ((congrArg y (pair_col i j)).trans (hy i))

/-! ## The chunk -/

/-- A vector laid out as one row. -/
theorem one_row {α : Type} (x : S256.Idx → α) (i : Fin 1) (j : Fin 256) : shapeCast S1x256 x shapeCasts_S256_S1x256 (ix2 i j) = x (ix1 j) :=
  (shapeCast_addUnit_apply ![256] x shapeCasts_S256_S1x256 (ix2 i j)).trans
    (congrArg x (funext fun b => match b with | ⟨0, _⟩ => rfl))

/-- A row repeated down the block. -/
theorem repeated {α : Type} (x : S1x256.Idx → α) (r j : Fin 256) :
    broadcastTo S256x256 x broadcasts_S1x256_S256x256 (ix2 r j) = x (ix2 (0 : Fin 1) j) :=
  broadcastTo_apply x broadcasts_S1x256_S256x256 (ix2 r j) (ix2 (0 : Fin 1) j) fun b => match b with
    | ⟨0, _⟩ => rfl
    | ⟨1, _⟩ => rfl

/-- Two rows stacked, read in the upper one, -/
theorem stack_upper {α : Type} (x y : S1x256.Idx → α) (j : Fin 256) :
    concatenate S2x256 0 [⟨S1x256, x⟩, ⟨S1x256, y⟩] concatenates_S1x256_S1x256_S2x256_d0 (ix2 (0 : Fin 2) j) = x (ix2 (0 : Fin 1) j) :=
  concatenate_pair_apply_left (t := S2x256) 0 x y _ (ix2 (0 : Fin 2) j) rfl (ix2 (0 : Fin 1) j) fun b => match b with
    | ⟨0, _⟩ => rfl
    | ⟨1, _⟩ => rfl
/-- and in the lower one. -/
theorem stack_lower {α : Type} (x y : S1x256.Idx → α) (j : Fin 256) :
    concatenate S2x256 0 [⟨S1x256, x⟩, ⟨S1x256, y⟩] concatenates_S1x256_S1x256_S2x256_d0 (ix2 (1 : Fin 2) j) = y (ix2 (0 : Fin 1) j) :=
  concatenate_pair_apply_right (t := S2x256) 0 x y _ (ix2 (1 : Fin 2) j) rfl rfl (ix2 (0 : Fin 1) j) (fun b hb => match b with
    | ⟨0, _⟩ => absurd rfl hb
    | ⟨1, _⟩ => rfl) rfl

/-- A block of two rows viewed with a leading unit axis. -/
theorem as_slot {α : Type} (x : S2x256.Idx → α) (r : Fin 2) (j : Fin 256) :
    shapeCast S1x2x256 x shapeCasts_S2x256_S1x2x256 (ix3 (0 : Fin 1) r j) = x (ix2 r j) :=
  (shapeCast_addUnit_apply ![2, 256] x shapeCasts_S2x256_S1x2x256 (ix3 (0 : Fin 1) r j)).trans
    (congrArg x (funext fun b => match b with | ⟨0, _⟩ => rfl | ⟨1, _⟩ => rfl))

/-- The largest entry of each column of a block. -/
def tops (x : FVec Ideal S256x256 .bf16) : FVec Ideal S256 .bf16 :=
  multiReduction .maximumf [0] S256 (shapeCast S256x256 x shapeCasts_S256x256_S256x256) 0xFF80#16 reduces_S256x256_S256 (.inr rfl) rfl

/-- The number of each row that holds its column's largest entry, and the sentinel elsewhere. -/
def marked (x : FVec Ideal S256x256 .bf16) : FVec Ideal S256x256 .f32 :=
  select (cmpf .oeq (shapeCast S256x256 x shapeCasts_S256x256_S256x256)
      (broadcastTo S256x256 (shapeCast S1x256 (tops x) shapeCasts_S256_S1x256) broadcasts_S1x256_S256x256))
    (sitofp .f32 (iota .tc S256x256 32 [0] iota_S256x256_d0_w32)) (broadcast S256x256 (Scalar.ofBits .f32 0x4E6E6B28#32))

/-- The least of them in each column. -/
def least (x : FVec Ideal S256x256 .bf16) : FVec Ideal S256 .f32 :=
  multiReduction .minimumf [0] S256 (marked x) 0x7F800000#32 reduces_S256x256_S256 (.inl rfl) rfl

/-- The chunk: the columns' largest entries over the first rows that hold them, moved to where the device's rows begin. -/
theorem pay1_eq (word : BitVec 32) (x : FVec Ideal S256x256 .bf16) : k0_pay1 (F := Ideal) word x
    = shapeCast S1x2x256 (shapeCast S1x2x256 (concatenate S2x256 0
        [⟨S1x256, extf .f32 (shapeCast S1x256 (tops x) shapeCasts_S256_S1x256) bitsLt_bf16_f32⟩,
         ⟨S1x256, addf (shapeCast S1x256 (least x) shapeCasts_S256_S1x256)
            (broadcast S1x256 (Scalar.mulf (Scalar.sitofp .f32 word) (Scalar.ofBits .f32 0x43800000#32)))⟩]
        concatenates_S1x256_S1x256_S2x256_d0) shapeCasts_S2x256_S1x2x256) shapeCasts_S1x2x256_S1x2x256 := rfl

theorem tops_apply (x : FVec Ideal S256x256 .bf16) (hx : ∀ r : Fin 256, x (ix2 r j) = g (a + r.val)) (h : First g a (a + 256) v k) :
    tops x (ix1 j) = v := by
  unfold tops
  rw [shapeCast_self]
  exact max_column x hx h _ _

theorem least_apply (x : FVec Ideal S256x256 .bf16) (hx : ∀ r : Fin 256, x (ix2 r j) = g (a + r.val)) (h : First g a (a + 256) v k) :
    least x (ix1 j) = (((k - a : ℕ) : ℝ) : EReal) := by
  refine min_column (marked x) (fun r => ?_) h _ _
  have hm : broadcastTo S256x256 (shapeCast S1x256 (tops x) shapeCasts_S256_S1x256) broadcasts_S1x256_S256x256 (ix2 r j) = v := by
    rw [repeated, one_row]; exact tops_apply x hx h
  have hi : (iota .tc S256x256 32 [0] iota_S256x256_d0_w32 (ix2 r j)).toInt = (r.val : ℤ) := by
    rw [iota_single_apply]
    exact row_word r.val (r.isLt.trans (by decide))
  have hs : shapeCast S256x256 x shapeCasts_S256x256_S256x256 (ix2 r j) = g (a + r.val) := by rw [shapeCast_self]; exact hx r
  refine Eq.trans (show _ = Scalar.select (Ideal.cmp .oeq (shapeCast S256x256 x shapeCasts_S256x256_S256x256 (ix2 r j))
      (broadcastTo S256x256 (shapeCast S1x256 (tops x) shapeCasts_S256_S1x256) broadcasts_S1x256_S256x256 (ix2 r j)))
    (((iota .tc S256x256 32 [0] iota_S256x256_d0_w32 (ix2 r j)).toInt : ℝ) : EReal) (Ideal.ofBits .f32 0x4E6E6B28#32) from rfl) ?_
  rw [hm, hi, hs]
  unfold Scalar.select Ideal.cmp
  by_cases he : g (a + r.val) = v <;> simp [he]

/-- Widening changes no entry. -/
theorem widened {s : Shape} (x : FVec Ideal s .bf16) (i : s.Idx) : extf (F := Ideal) .f32 x bitsLt_bf16_f32 i = x i := rfl

/-- The upper row of a chunk is the largest entry of the device's rows, -/
theorem chunk_value (word : BitVec 32) (x : FVec Ideal S256x256 .bf16) (hx : ∀ r : Fin 256, x (ix2 r j) = g (a + r.val))
    (h : First g a (a + 256) v k) : k0_pay1 (F := Ideal) word x (ix3 (0 : Fin 1) (0 : Fin 2) j) = v := by
  rw [pay1_eq, shapeCast_self, as_slot, stack_upper]
  rw [widened, one_row]
  exact tops_apply x hx h

/-- and the lower one the number of the first row that holds it, counted over the whole matrix. -/
theorem chunk_number (word : BitVec 32) (c : ℕ) (hword : word.toInt = c) (hc : a = 256 * c) (x : FVec Ideal S256x256 .bf16)
    (hx : ∀ r : Fin 256, x (ix2 r j) = g (a + r.val)) (h : First g a (a + 256) v k) :
    k0_pay1 (F := Ideal) word x (ix3 (0 : Fin 1) (1 : Fin 2) j) = ((k : ℝ) : EReal) := by
  rw [pay1_eq, shapeCast_self, as_slot, stack_lower]
  have hstart : ((word.toInt : ℝ) : EReal) * Ideal.ofBits .f32 0x43800000#32 = ((a : ℝ) : EReal) := by
    rw [bits_256, hword, ← EReal.coe_mul, hc]; push_cast; rw [mul_comm]
  refine (congrArg₂ (fun p q : EReal => p + q) ((one_row (least x) 0 j).trans (least_apply x hx h)) hstart).trans ?_
  rw [← EReal.coe_add, ← Nat.cast_add, Nat.sub_add_cancel h.lower]

end Cert.KernelIdealGather

end
-- ==== Proof.KernelIdealResult.lean ====
/-
# What the kernel's result holds over the extended reals

The four chunks are folded with a strict comparison, slot by slot. At each column the result is the first largest entry of
the whole matrix: its value above, the number of its row below.
-/
module

public import proofs.«01_k».proof.Proof.KernelIdealChunk

@[expose] public section

noncomputable section

namespace Cert.KernelIdealGather

open Cert.KernelIdeal Cert.KernelIdeal.Gen Cert.Columns
open Idealize.ShloMosaic
open Idealize.ShloMosaic.TcCoe
open Idealize.ShloMosaic.ValueIdx (ix1 ix2 ix3)

/-- A slot's line laid out as a row. -/
theorem line_row {α : Type} (x : S1x1x256.Idx → α) (i : Fin 1) (j : Fin 256) :
    shapeCast S1x256 x shapeCasts_S1x1x256_S1x256 (ix2 i j) = x (ix3 (0 : Fin 1) i j) :=
  (shapeCast_dropUnit_apply ![1, 256] x shapeCasts_S1x1x256_S1x256 (ix2 i j)).trans
    (congrArg x (funext fun b => match b with | ⟨0, _⟩ => rfl | ⟨1, _⟩ => rfl | ⟨2, _⟩ => rfl))

/-- A selection by a strict comparison. -/
theorem select_greater {α : Type} (v w : EReal) (x y : α) : Scalar.select (Ideal.cmp .ogt w v) x y = if v < w then x else y := by
  unfold Scalar.select Ideal.cmp
  by_cases h : v < w <;> simp [h]

variable (m : (ℓ : Loc nD τ sig) → Buf (Elt Ideal) ℓ)

/-- The value and the row number in slot `s` at column `j`. -/
def slotValue (s : Fin 4) (j : Fin 256) : EReal := line m s 0 (ix3 (0 : Fin 1) (0 : Fin 1) j)
def slotNumber (s : Fin 4) (j : Fin 256) : EReal := line m s 1 (ix3 (0 : Fin 1) (0 : Fin 1) j)

/-- One step of the fold over the slots: the winner's value, -/
def better (v w : EReal) : EReal := if v < w then w else v
/-- and what goes with it. -/
def betterOf {α : Type} (v w : EReal) (x y : α) : α := if v < w then y else x

theorem best01_apply (j : Fin 256) : best01 m (ix2 (0 : Fin 1) j) = better (slotValue m 0 j) (slotValue m 1 j) := by
  show Scalar.select (Ideal.cmp .ogt (shapeCast S1x256 (line m 1 0) shapeCasts_S1x1x256_S1x256 (ix2 (0 : Fin 1) j))
    (shapeCast S1x256 (line m 0 0) shapeCasts_S1x1x256_S1x256 (ix2 (0 : Fin 1) j)))
    (shapeCast S1x256 (line m 1 0) shapeCasts_S1x1x256_S1x256 (ix2 (0 : Fin 1) j))
    (shapeCast S1x256 (line m 0 0) shapeCasts_S1x1x256_S1x256 (ix2 (0 : Fin 1) j)) = _
  rw [select_greater, line_row, line_row]; rfl

theorem row01_apply (j : Fin 256) :
    row01 m (ix2 (0 : Fin 1) j) = betterOf (slotValue m 0 j) (slotValue m 1 j) (slotNumber m 0 j) (slotNumber m 1 j) := by
  show Scalar.select (Ideal.cmp .ogt (shapeCast S1x256 (line m 1 0) shapeCasts_S1x1x256_S1x256 (ix2 (0 : Fin 1) j))
    (shapeCast S1x256 (line m 0 0) shapeCasts_S1x1x256_S1x256 (ix2 (0 : Fin 1) j)))
    (shapeCast S1x256 (line m 1 1) shapeCasts_S1x1x256_S1x256 (ix2 (0 : Fin 1) j))
    (shapeCast S1x256 (line m 0 1) shapeCasts_S1x1x256_S1x256 (ix2 (0 : Fin 1) j)) = _
  rw [select_greater, line_row, line_row, line_row, line_row]; rfl

/-- The winner after slot 2, in terms of the one before. -/
theorem best2_apply (b : FVec Ideal S1x256 .f32) (j : Fin 256) :
    k0_pay9 b (line m 2 0) (ix2 (0 : Fin 1) j) = better (b (ix2 (0 : Fin 1) j)) (slotValue m 2 j) := by
  show Scalar.select (Ideal.cmp .ogt (shapeCast S1x256 (line m 2 0) shapeCasts_S1x1x256_S1x256 (ix2 (0 : Fin 1) j)) (b (ix2 (0 : Fin 1) j)))
    (shapeCast S1x256 (line m 2 0) shapeCasts_S1x1x256_S1x256 (ix2 (0 : Fin 1) j)) (b (ix2 (0 : Fin 1) j)) = _
  rw [select_greater, line_row]; rfl

theorem bestAll_apply (j : Fin 256) : bestAll m (ix2 (0 : Fin 1) j)
    = better (better (better (slotValue m 0 j) (slotValue m 1 j)) (slotValue m 2 j)) (slotValue m 3 j) := by
  show Scalar.select (Ideal.cmp .ogt (shapeCast S1x256 (line m 3 0) shapeCasts_S1x1x256_S1x256 (ix2 (0 : Fin 1) j))
      (k0_pay9 (best01 m) (line m 2 0) (ix2 (0 : Fin 1) j)))
    (shapeCast S1x256 (line m 3 0) shapeCasts_S1x1x256_S1x256 (ix2 (0 : Fin 1) j)) (k0_pay9 (best01 m) (line m 2 0) (ix2 (0 : Fin 1) j)) = _
  rw [select_greater, line_row, best2_apply, best01_apply]; rfl

theorem rowAll_apply (j : Fin 256) : rowAll m (ix2 (0 : Fin 1) j)
    = betterOf (better (better (slotValue m 0 j) (slotValue m 1 j)) (slotValue m 2 j)) (slotValue m 3 j)
        (betterOf (better (slotValue m 0 j) (slotValue m 1 j)) (slotValue m 2 j)
          (betterOf (slotValue m 0 j) (slotValue m 1 j) (slotNumber m 0 j) (slotNumber m 1 j)) (slotNumber m 2 j)) (slotNumber m 3 j) := by
  show Scalar.select (Ideal.cmp .ogt (shapeCast S1x256 (line m 3 0) shapeCasts_S1x1x256_S1x256 (ix2 (0 : Fin 1) j))
      (k0_pay9 (best01 m) (line m 2 0) (ix2 (0 : Fin 1) j)))
    (shapeCast S1x256 (line m 3 1) shapeCasts_S1x1x256_S1x256 (ix2 (0 : Fin 1) j))
    (Scalar.select (Ideal.cmp .ogt (shapeCast S1x256 (line m 2 0) shapeCasts_S1x1x256_S1x256 (ix2 (0 : Fin 1) j)) (best01 m (ix2 (0 : Fin 1) j)))
      (shapeCast S1x256 (line m 2 1) shapeCasts_S1x1x256_S1x256 (ix2 (0 : Fin 1) j)) (row01 m (ix2 (0 : Fin 1) j))) = _
  rw [select_greater, select_greater, best2_apply, best01_apply, row01_apply, line_row, line_row, line_row, line_row]; rfl

/-! ## Against a column of the whole matrix -/

theorem devWord_toInt (c : Dev nD) : (devWord c).toInt = (c.val : ℤ) := by revert c; decide

variable {g : ℕ → EReal} {j : Fin 256}

/-- What a slot holds, when column `j` of the four devices' rows is `g`: the first largest of the slot's 256 rows. -/
theorem slot_first (hg : ∀ (c : Dev nD) (r : Fin 256), rows m c (ix2 r j : S256x256.Idx) = g (256 * c.val + r.val)) (s : Fin 4) :
    ∃ k : ℕ, First g (256 * s.val) (256 * s.val + 256) (slotValue m s j) k ∧ slotNumber m s j = ((k : ℝ) : EReal) := by
  obtain ⟨v, k, h⟩ := First.exists g (256 * s.val) 255
  have hv : slotValue m s j = v := chunk_value (devWord s) (rows m s) (hg s) h
  have hk : slotNumber m s j = ((k : ℝ) : EReal) := chunk_number (devWord s) s.val (devWord_toInt s) rfl (rows m s) (hg s) h
  exact ⟨k, hv ▸ h, hk⟩

/-- A step of the fold keeps the first largest entry of all rows so far, with its number. -/
theorem step_first {a b c k l : ℕ} {v w x y : EReal} (h : First g a b v k) (hx : x = ((k : ℝ) : EReal)) (h' : First g b c w l)
    (hy : y = ((l : ℝ) : EReal)) : ∃ n : ℕ, First g a c (better v w) n ∧ betterOf v w x y = ((n : ℝ) : EReal) := by
  refine ⟨_, h.merge h', ?_⟩
  unfold betterOf; split <;> assumption

/-- The result at a column: the first largest entry of the whole column, and the number of its row. -/
theorem result_first (hg : ∀ (c : Dev nD) (r : Fin 256), rows m c (ix2 r j : S256x256.Idx) = g (256 * c.val + r.val)) :
    ∃ k : ℕ, First g 0 1024 (result m (ix2 (0 : Fin 2) j : S2x256.Idx)) k
      ∧ result m (ix2 (1 : Fin 2) j : S2x256.Idx) = ((k : ℝ) : EReal) := by
  obtain ⟨k0, h0, e0⟩ := slot_first m hg 0
  obtain ⟨k1, h1, e1⟩ := slot_first m hg 1
  obtain ⟨k2, h2, e2⟩ := slot_first m hg 2
  obtain ⟨k3, h3, e3⟩ := slot_first m hg 3
  obtain ⟨n1, f1, d1⟩ := step_first h0 e0 h1 e1
  obtain ⟨n2, f2, d2⟩ := step_first f1 d1 h2 e2
  obtain ⟨n3, f3, d3⟩ := step_first f2 d2 h3 e3
  have hb : result m (ix2 (0 : Fin 2) j : S2x256.Idx) = bestAll m (ix2 (0 : Fin 1) j) := rfl
  have hr : result m (ix2 (1 : Fin 2) j : S2x256.Idx) = rowAll m (ix2 (0 : Fin 1) j) := rfl
  rw [hb, hr, bestAll_apply, rowAll_apply]
  exact ⟨n3, f3, d3⟩

end Cert.KernelIdealGather

end
-- ==== Proof.ReferenceValue.lean ====
/-
# What the reference's result holds over the extended reals

At each column the reference's result is the first largest entry: its value above, the number of its row below.
-/
module

public import proofs.«01_k».proof.Proof.ReferenceRun
public import proofs.«01_k».proof.Proof.Winner
public import Idealize.ShloMosaic.PureOps.Ideal
public import Idealize.ShloMosaic.PureOps.Ideal.Laws
public import Idealize.ShloMosaic.PureOps.Reduce
public import Idealize.ShloMosaic.Lib.Pipeline.Value
public import Idealize.ShloMosaic.Lib.ValueIdxCore

@[expose] public section

noncomputable section

namespace Cert.ReferenceColumns

open Cert.ReferenceIdeal Cert.ReferenceIdeal.Gen Cert.Columns
open Idealize.ShloMosaic
open Idealize.ShloMosaic.ValueIdx (ix1 ix2)

theorem minus_infinity : Ideal.ofBits .bf16 0xFF80#16 = ⊥ := by simp [Ideal.ofBits, Ideal.ieee]

/-- The reduction's shapes, as a fold down the rows takes them. -/
theorem down_rows : S1024x256.Reduces [0] S256 := by decide

theorem pair_col (r : Fin 1024) (j : Fin 256) :
    (Shape.pair r (down_rows.col (ix1 j : S256.Idx)) : S1024x256.Idx) = ix2 r j := by
  funext a; apply Fin.ext
  match a with
  | ⟨0, _⟩ => rfl
  | ⟨1, _⟩ => rfl

/-- The fold's body on a winner in row `w` and an entry of a later row `n`: the entry wins if it is strictly larger. -/
theorem body_later (v x : EReal) (w n : ℕ) (hw : w < n) (hn : n < 1024) :
    reducer_argmax_bf16_i32 (F := Ideal) (v, BitVec.ofNat 32 w) (x, BitVec.ofNat 32 n)
      = if v < x then (x, BitVec.ofNat 32 n) else (v, BitVec.ofNat 32 w) := by
  have hs : (BitVec.ofNat 32 w).slt (BitVec.ofNat 32 n) = true := by
    rw [BitVec.slt, decide_eq_true_eq, row_word w (by omega), row_word n hn]; omega
  unfold reducer_argmax_bf16_i32
  simp only [Ideal.cmpf_def, Ideal.cmp, Scalar.select, IntOp.cmpi, hs]
  rcases lt_trichotomy v x with h | h | h
  · simp [h, h.not_gt, h.ne, IntOp.ori, IntOp.andi]
  · subst h; simp [IntOp.ori, IntOp.andi]
  · simp [h, h.not_gt, h.ne', IntOp.ori, IntOp.andi]

/-- On the starting pair and row zero, row zero wins. -/
theorem body_first (x : EReal) :
    reducer_argmax_bf16_i32 (F := Ideal) (⊥, 0#32) (x, 0#32) = (x, 0#32) := by
  unfold reducer_argmax_bf16_i32
  simp only [Ideal.cmpf_def, Ideal.cmp, Scalar.select, IntOp.cmpi]
  simp [IntOp.ori, IntOp.andi]

variable {g : ℕ → EReal} {j : Fin 256}

/-- The argmax finds the number of the first row that holds the largest entry. -/
theorem winners_first (x : FVec Ideal S1024x256 .bf16) (hx : ∀ r : Fin 1024, x (ix2 r j) = g r.val) :
    ∃ (v : EReal) (k : ℕ), First g 0 1024 v k ∧ (winners x (ix1 j)).2 = BitVec.ofNat 32 k := by
  have hfold : winners x (ix1 j)
      = (List.finRange 1024).foldl (fun p r => reducer_argmax_bf16_i32 (F := Ideal) p (g r.val, BitVec.ofNat 32 r.val)) (⊥, 0#32) := by
    unfold winners
    rw [Ideal.argReduce_eq_reduce2]
    refine Eq.trans (show _ = reduceFold down_rows (reducer_argmax_bf16_i32 (F := Ideal)) (Ideal.ofBits .bf16 0xFF80#16, 0#32)
      (fun i => (x i, iotaInDim S1024x256 32 0 i)) (ix1 j) from rfl) ?_
    rw [reduceFold_rows, minus_infinity]
    refine congrArg (fun f => (List.finRange 1024).foldl f ((⊥ : EReal), 0#32)) (funext fun p => funext fun (r : Fin 1024) => ?_)
    exact congrArg (reducer_argmax_bf16_i32 (F := Ideal) p)
      ((congrArg (fun i => (x i, iotaInDim S1024x256 32 0 i)) (pair_col r j)).trans (congrArg (fun e => (e, BitVec.ofNat 32 r.val)) (hx r)))
  have key := foldl_rows 1024 (fun p r => reducer_argmax_bf16_i32 (F := Ideal) p (g r.val, BitVec.ofNat 32 r.val))
    (fun n p => n ≤ 1024 → if n = 0 then p = (⊥, 0#32) else ∃ k : ℕ, First g 0 n p.1 k ∧ p.2 = BitVec.ofNat 32 k)
    (⊥, 0#32) (by simp) (by
      rintro i ⟨v, w⟩ h hi
      have h := h (by omega)
      rw [if_neg (Nat.succ_ne_zero _)]
      have one : First g i.val (i.val + 1) (g i.val) i.val :=
        ⟨le_rfl, by omega, rfl, fun l _ _ => by omega, fun l hl hl' => by rw [show l = i.val by omega]⟩
      by_cases h0 : i.val = 0
      · rw [if_pos h0] at h
        rw [h, h0, body_first]
        rw [h0] at one
        exact ⟨0, one, rfl⟩
      · rw [if_neg h0] at h
        obtain ⟨k, hk, rfl : w = _⟩ := h
        rw [body_later v _ k i.val hk.upper i.isLt]
        refine ⟨if v < g i.val then i.val else k, ?_, ?_⟩
        · have := hk.merge one
          split <;> simp_all
        · split <;> rfl)
  have h := key le_rfl
  rw [if_neg (by omega), ← hfold] at h
  obtain ⟨k, hk, e⟩ := h
  exact ⟨_, k, hk, e⟩

/-- The maximum down a column is its largest entry. -/
theorem largest_first (x : FVec Ideal S1024x256 .bf16) (hx : ∀ r : Fin 1024, x (ix2 r j) = g r.val) {v : EReal} {k : ℕ}
    (h : First g 0 1024 v k) : largest x (ix1 j) = v := by
  refine Eq.trans (show _ = reduceFold down_rows max (Ideal.ofBits .bf16 0xFF80#16) x (ix1 j) from rfl) ?_
  have h' : First g 0 (0 + 1024) v k := by simpa using h
  rw [reduceFold_rows, minus_infinity]
  refine Eq.trans (congrArg (fun f => (List.finRange 1024).foldl f (⊥ : EReal)) (funext fun r => funext fun (i : Fin 1024) => ?_)) h'.foldl_max
  rw [Nat.zero_add]
  exact congrArg (max r) ((congrArg x (pair_col i j)).trans (hx i))

/-- A vector laid out as one row. -/
theorem one_row {α : Type} (x : S256.Idx → α) (j : Fin 256) :
    broadcastInDim S1x256 ![1] bcast_S256_S1x256_1 x (ix2 (0 : Fin 1) j) = x (ix1 j) :=
  congrArg x (funext fun b => match b with | ⟨0, _⟩ => rfl)

/-- Two rows stacked, read in the upper one, -/
theorem stack_upper {α : Type} (x y : S1x256.Idx → α) (j : Fin 256) :
    concatenate S2x256 0 [⟨S1x256, x⟩, ⟨S1x256, y⟩] concatenates_S1x256_S1x256_S2x256_d0 (ix2 (0 : Fin 2) j) = x (ix2 (0 : Fin 1) j) :=
  concatenate_pair_apply_left (t := S2x256) 0 x y _ (ix2 (0 : Fin 2) j) rfl (ix2 (0 : Fin 1) j) fun b => match b with
    | ⟨0, _⟩ => rfl
    | ⟨1, _⟩ => rfl
/-- and in the lower one. -/
theorem stack_lower {α : Type} (x y : S1x256.Idx → α) (j : Fin 256) :
    concatenate S2x256 0 [⟨S1x256, x⟩, ⟨S1x256, y⟩] concatenates_S1x256_S1x256_S2x256_d0 (ix2 (1 : Fin 2) j) = y (ix2 (0 : Fin 1) j) :=
  concatenate_pair_apply_right (t := S2x256) 0 x y _ (ix2 (1 : Fin 2) j) rfl rfl (ix2 (0 : Fin 1) j) (fun b hb => match b with
    | ⟨0, _⟩ => absurd rfl hb
    | ⟨1, _⟩ => rfl) rfl

/-- Widening changes no entry. -/
theorem widened {s : Shape} (x : FVec Ideal s .bf16) (i : s.Idx) : extf (F := Ideal) .f32 x bitsLt_bf16_f32 i = x i := rfl

/-- The upper row of the result, -/
theorem stacked_upper (x : FVec Ideal S1024x256 .bf16) (j : Fin 256) : stacked x (ix2 (0 : Fin 2) j) = largest x (ix1 j) := by
  unfold stacked
  rw [stack_upper, one_row, widened]
/-- and the lower one. -/
theorem stacked_lower (x : FVec Ideal S1024x256 .bf16) (j : Fin 256) : stacked x (ix2 (1 : Fin 2) j) = numbers x (ix1 j) := by
  unfold stacked
  rw [stack_lower, one_row]

/-- The result at a column: the first largest entry, and the number of its row. -/
theorem stacked_first (x : FVec Ideal S1024x256 .bf16) (hx : ∀ r : Fin 1024, x (ix2 r j) = g r.val) :
    ∃ k : ℕ, First g 0 1024 (stacked x (ix2 (0 : Fin 2) j)) k ∧ stacked x (ix2 (1 : Fin 2) j) = ((k : ℝ) : EReal) := by
  obtain ⟨v, k, h, e⟩ := winners_first x hx
  refine ⟨k, ?_, ?_⟩
  · rw [stacked_upper, largest_first x hx h]; exact h
  · rw [stacked_lower]
    show (((winners x (ix1 j)).2.toInt : ℝ) : EReal) = _
    have hk : (BitVec.ofNat 32 k).toInt = (k : ℤ) := by
      exact row_word k h.upper
    rw [e, hk, Int.cast_natCast]

end Cert.ReferenceColumns

end
-- ==== Proof.KernelIdealReadOff.lean ====
/-
# The arrays at the launch's two ends

The launch has one grid point, and each block is the whole array: what the body is given is the argument as it was, and
what it leaves is the result. With the argument cut over the devices, the result agrees with the reference's at each column.
-/
module

public import proofs.«01_k».proof.Proof.KernelIdealLaunch
public import proofs.«01_k».proof.Proof.KernelIdealResult
public import proofs.«01_k».proof.Proof.ReferenceValue

@[expose] public section

noncomputable section

namespace Cert.KernelIdealGather

open Cert.KernelIdeal Cert.KernelIdeal.Gen Cert.Columns
open Idealize.ShloMosaic
open Idealize.ShloMosaic.TcCoe
open Idealize.ShloMosaic.ValueIdx (ix1 ix2 ix3)

variable (m : (ℓ : Loc nD τ sig) → Buf (Elt Ideal) ℓ)

/-- The argument's block starts at the origin, -/
theorem start_arg : (fun a => (win0_0.index (0 : Fin 1)) a * main_arg0.ty.shape.size a) = fun _ => 0 :=
  funext fun a => by fin_cases a <;> decide

/-- and so does the result's. -/
theorem start_result : (fun a => (win0_1.index (0 : Fin 1)) a * main_v1.ty.shape.size a) = fun _ => 0 :=
  funext fun a => by fin_cases a <;> decide

/-- A device's rows are its argument. -/
theorem rows_eq (c : Dev nD) : rows m c = m ((c : Thread nD τ).loc main_arg0) :=
  Memref.read_access_unit_zero (Elt Ideal) main_arg0 start_arg (fun a => by fin_cases a <;> decide) _

/-- The result's block, read after the one grid point, is what the body stored. -/
theorem final_block (c : Dev nD) : (win0_1.blk (0 : Fin 1)).view.read (Elt Ideal) (final m c (1 : Fin 2)) = result m := by
  unfold final
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- The result's array ends holding it. -/
theorem final_result (c : Dev nD) : final m c (1 : Fin 2) = result m :=
  (Memref.read_access_unit_zero (Elt Ideal) main_v1 start_result (fun a => by fin_cases a <;> decide) _).symm.trans (final_block m c)

/-- The whole matrix's column `j`, continued below the last row. -/
def column (X : FVec Ideal Cert.ReferenceIdeal.S1024x256 .bf16) (j : Fin 256) (i : ℕ) : EReal :=
  if h : i < 1024 then X (ix2 (⟨i, h⟩ : Fin 1024) j) else ⊥

theorem column_apply (X : FVec Ideal Cert.ReferenceIdeal.S1024x256 .bf16) (j : Fin 256) (r : Fin 1024) :
    column X j r.val = X (ix2 r j) := dif_pos r.isLt

/-- Device `c`'s part of the matrix is its rows from `256 c` on. -/
theorem block_column (X : FVec Ideal Cert.ReferenceIdeal.S1024x256 .bf16) (j : Fin 256) (c : Fin 4) (r : Fin 256) :
    (Layout.block ⟨2, ![256, 256]⟩ ⟨2, ![1024, 256]⟩ 0 4 c X) (ix2 r j) = column X j (256 * c.val + r.val) := by
  have hlt : 256 * c.val + r.val < 1024 := by omega
  rw [Layout.block_apply, show column X j (256 * c.val + r.val) = X (ix2 (⟨256 * c.val + r.val, hlt⟩ : Fin 1024) j) from dif_pos hlt]
  refine congrArg X (funext fun b => Fin.ext ?_)
  rw [Layout.Tiles.idx_val]
  match b with
  | ⟨0, _⟩ => exact (congrArg (· + r.val) (Nat.mul_comm c.val 256))
  | ⟨1, _⟩ => rfl

/-- With the argument cut over the devices, the result is the reference's. -/
theorem result_eq (X : FVec Ideal Cert.ReferenceIdeal.S1024x256 .bf16)
    (hm : ∀ c : Dev nD, m ((c : Thread nD τ).loc main_arg0) = Layout.block ⟨2, ![256, 256]⟩ ⟨2, ![1024, 256]⟩ 0 4 c X) :
    result m = Cert.ReferenceColumns.stacked X := by
  have hcol : ∀ j : Fin 256, result m (ix2 (0 : Fin 2) j : S2x256.Idx) = Cert.ReferenceColumns.stacked X (ix2 (0 : Fin 2) j)
      ∧ result m (ix2 (1 : Fin 2) j : S2x256.Idx) = Cert.ReferenceColumns.stacked X (ix2 (1 : Fin 2) j) := by
    intro j
    obtain ⟨k, hk, ek⟩ := result_first (g := column X j) (j := j) m fun c r =>
      (congrFun ((rows_eq m c).trans (hm c)) (ix2 r j)).trans (block_column X j c r)
    obtain ⟨l, hl, el⟩ := Cert.ReferenceColumns.stacked_first (g := column X j) (j := j) X fun r => (column_apply X j r).symm
    obtain ⟨hv, hkl⟩ := hk.unique hl
    exact ⟨hv, ek.trans ((congrArg (fun n : ℕ => ((n : ℝ) : EReal)) hkl).trans el.symm)⟩
  funext i
  have hi : i = (ix2 (i 0 : Fin 2) (i 1 : Fin 256) : S2x256.Idx) := funext fun b => match b with
    | ⟨0, _⟩ => rfl
    | ⟨1, _⟩ => rfl
  have both : ∀ p : Fin 2, ∀ j : Fin 256, result m (ix2 p j : S2x256.Idx) = Cert.ReferenceColumns.stacked X (ix2 p j) := fun p j =>
    match p with
    | ⟨0, _⟩ => (hcol j).1
    | ⟨1, _⟩ => (hcol j).2
  rw [hi]
  exact both (i 0) (i 1)

end Cert.KernelIdealGather

end
-- ==== Proof.lean ====
/-
# The claims

The kernel, the kernel over the extended reals and the reference run to the end and leave their arguments and semaphores
as they were. Over the extended reals the kernel's result, on every device, is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.ReferenceRun
public import proofs.«01_k».proof.Proof.KernelLaunch
public import proofs.«01_k».proof.Proof.KernelIdealLaunch
public import proofs.«01_k».proof.Proof.KernelIdealReadOff
public import Idealize.ShloMosaic.Adequacy
public import Idealize.ShloMosaic.Init

@[expose] public section

noncomputable section

namespace Cert.Proof

open Idealize.ShloMosaic Idealize.SL.Sem

/-- The kernel runs, whatever its words are, and leaves its argument and every semaphore as it found them. -/
theorem frame_kernel : Cert.quiescent_Kernel := by
  intro m ρ _
  exact (θ_run Cert.Kernel.defs _ _).mono
    (fun _ h => ⟨fun c => (h.1 c (0 : Fin 2)).trans (Cert.KernelGather.final_arg m c), h.2⟩) (Cert.KernelGather.run_main m ρ)

/-- The same over the extended reals. -/
theorem frame_kernelIdeal : Cert.quiescent_KernelIdeal := by
  intro m ρ _
  exact (θ_run Cert.KernelIdeal.defs _ _).mono
    (fun _ h => ⟨fun c => (h.1 c (0 : Fin 2)).trans (Cert.KernelIdealGather.final_arg m c), h.2⟩) (Cert.KernelIdealGather.run_main m ρ)

/-- The reference runs and leaves its argument as it found it; it has no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceColumns.run_main m ρ)

/-- Every device's result is the reference's, of which the devices' arguments are the parts. -/
theorem algebraic : Cert.algebraic_KernelIdeal_ReferenceIdeal := by
  intro m ρ m' ρ' _ hagree
  refine ⟨Cert.ReferenceColumns.stacked (F := Ideal) (m' (((0 : Dev Cert.ReferenceIdeal.nD).tc
    : Thread Cert.ReferenceIdeal.nD Cert.ReferenceIdeal.τ).loc Cert.ReferenceIdeal.main_arg0)), ?_, ?_⟩
  · exact (θ_run Cert.KernelIdeal.defs _ _).mono
      (fun _ h c => ⟨((h.1 c (1 : Fin 2)).trans (Cert.KernelIdealGather.final_result m c)).trans
          (Cert.KernelIdealGather.result_eq m _ hagree),
        (h.1 c (0 : Fin 2)).trans (Cert.KernelIdealGather.final_arg m c)⟩) (Cert.KernelIdealGather.run_main m ρ)
  · exact (θ_run Cert.ReferenceIdeal.defs _ _).mono (fun _ h => h 0) (Cert.ReferenceColumns.run_main m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
